-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x1024 : Shape := ⟨3, ![1, 512, 1024]⟩
abbrev S1024x1024 : Shape := ⟨2, ![1024, 1024]⟩
abbrev S512x1024 : Shape := ⟨2, ![512, 1024]⟩
abbrev S3x128x1024 : Shape := ⟨3, ![3, 128, 1024]⟩
abbrev S128x1024 : Shape := ⟨2, ![128, 1024]⟩
abbrev S3 : Shape := ⟨1, ![3]⟩
abbrev S_ : Shape := ⟨0, ![]⟩
abbrev S1024x256 : Shape := ⟨2, ![1024, 256]⟩
abbrev S512x256 : Shape := ⟨2, ![512, 256]⟩
abbrev S1x128x1024 : Shape := ⟨3, ![1, 128, 1024]⟩
abbrev S128x128 : Shape := ⟨2, ![128, 128]⟩
abbrev S512x128 : Shape := ⟨2, ![512, 128]⟩
abbrev S128x512 : Shape := ⟨2, ![128, 512]⟩
abbrev S128 : Shape := ⟨1, ![128]⟩
abbrev S128x1 : Shape := ⟨2, ![128, 1]⟩
abbrev S1 : Shape := ⟨1, ![1]⟩

abbrev nBuf : Space → Nat
  | .hbm => 6
  | .vmem => 10
  | .smem => 0
  | _ => 0

abbrev bufTy : (tb : Table) → Fin (tcTables nBuf tb) → BufTy
  | .hbm, ⟨0, _⟩ => ⟨S1x512x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S512x1024, .f32⟩
  | .local _ .vmem, ⟨0, _⟩ => ⟨S1x512x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S512x1024, .f32⟩
  | .local _ .vmem, ⟨6, _⟩ => ⟨S3x128x1024, .bf16⟩
  | .local _ .vmem, ⟨7, _⟩ => ⟨S3x128x1024, .bf16⟩
  | .local _ .vmem, ⟨8, _⟩ => ⟨S128x1024, .bf16⟩
  | .local _ .vmem, ⟨9, _⟩ => ⟨S3x128x1024, .bf16⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_5 : BitVec 32 := 1#32
  let v10 : BitVec 32 := Scalar.muli v4 c1_i32_5
  let v11 : BitVec 32 := Scalar.addi c0_i32 v10
  v11.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_7 : BitVec 32 := 1#32
  let v12 : BitVec 32 := Scalar.muli v6 c1_i32_7
  let v13 : BitVec 32 := Scalar.addi c0_i32_8 v12
  v13.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_10 : BitVec 32 := 1#32
  let v14 : BitVec 32 := Scalar.muli v8 c1_i32_10
  let v15 : BitVec 32 := Scalar.addi c0_i32_11 v14
  v15.toNat
def k0_off1 (d0 : Dev nD) : Fin 2 → Nat :=
  let c0_19 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v25 : BitVec 32 := Scalar.muli v2 c256_i32
  let v26 : Index := Scalar.indexCast v25
  ![0, v26.toNat]
def k0_off2 (d0 : Dev nD) (c1_i32_0 : BitVec 32) : Fin 3 → Nat :=
  let c0_22 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let c128_i32 : BitVec 32 := 128#32
  let v38 : BitVec 32 := Scalar.muli v4 c128_i32
  let v39 : Index := Scalar.indexCast v38
  let c0_23 : Index := 0#32
  ![0, v39.toNat, 0]
def k0_dev4 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_72 : BitVec 32 := 1#32
  let v195 : BitVec 32 := Scalar.muli v4 c1_i32_72
  let v196 : BitVec 32 := Scalar.addi c0_i32_73 v195
  v196.toNat
def k0_dev5 (d0 : Dev nD) : Nat :=
  let c0_i32_130 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_129 : BitVec 32 := 1#32
  let v362 : BitVec 32 := Scalar.muli v6 c1_i32_129
  let v363 : BitVec 32 := Scalar.addi c0_i32_130 v362
  v363.toNat
def k0_dev6 (d0 : Dev nD) : Nat :=
  let c0_i32_188 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_187 : BitVec 32 := 1#32
  let v529 : BitVec 32 := Scalar.muli v8 c1_i32_187
  let v530 : BitVec 32 := Scalar.addi c0_i32_188 v529
  v530.toNat
def k0_off3 (d0 : Dev nD) : Fin 3 → Nat :=
  let c0_194 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_193 : BitVec 32 := 128#32
  let v539 : BitVec 32 := Scalar.muli v2 c128_i32_193
  let v540 : Index := Scalar.indexCast v539
  let c0_195 : Index := 0#32
  ![0, v540.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_268 : BitVec 32 := 128#32
  let v716 : BitVec 32 := Scalar.muli v2 c128_i32_268
  let v729 : Index := Scalar.indexCast v716
  let c0_278 : Index := 0#32
  ![v729.toNat, 0]
def k0_dev7 (d0 : Dev nD) : Nat :=
  let c0_i32_285 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_284 : BitVec 32 := 1#32
  let v735 : BitVec 32 := Scalar.muli v4 c1_i32_284
  let v736 : BitVec 32 := Scalar.addi c0_i32_285 v735
  v736.toNat
def k0_dev8 (d0 : Dev nD) : Nat :=
  let c0_i32_292 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_291 : BitVec 32 := 1#32
  let v743 : BitVec 32 := Scalar.muli v6 c1_i32_291
  let v744 : BitVec 32 := Scalar.addi c0_i32_292 v743
  v744.toNat
def k0_dev9 (d0 : Dev nD) : Nat :=
  let c0_i32_299 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_298 : BitVec 32 := 1#32
  let v751 : BitVec 32 := Scalar.muli v8 c1_i32_298
  let v752 : BitVec 32 := Scalar.addi c0_i32_299 v751
  v752.toNat
def k0_off5 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let c128_i32_326 : BitVec 32 := 128#32
  let v780 : BitVec 32 := Scalar.muli v4 c128_i32_326
  let v781 : Index := Scalar.indexCast v780
  let c0_327 : Index := 0#32
  ![v781.toNat, 0]
abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x512x1024 : Shape := ⟨3, ![1, 512, 1024]⟩
abbrev S1024x4096 : Shape := ⟨2, ![1024, 4096]⟩
abbrev S1024x1024 : Shape := ⟨2, ![1024, 1024]⟩
abbrev S4096x1024 : Shape := ⟨2, ![4096, 1024]⟩
abbrev S1x512x4096 : Shape := ⟨3, ![1, 512, 4096]⟩
abbrev S1x512x32x128 : Shape := ⟨4, ![1, 512, 32, 128]⟩
abbrev S1x512x8x128 : Shape := ⟨4, ![1, 512, 8, 128]⟩
abbrev S1x512x8x4x128 : Shape := ⟨5, ![1, 512, 8, 4, 128]⟩
abbrev S1x32x512x512 : Shape := ⟨4, ![1, 32, 512, 512]⟩
abbrev S_ : Shape := ⟨0, ![]⟩
abbrev S1x32x512 : Shape := ⟨3, ![1, 32, 512]⟩
abbrev S1x32x512x1 : Shape := ⟨4, ![1, 32, 512, 1]⟩
abbrev S1x32x128x512 : Shape := ⟨4, ![1, 32, 128, 512]⟩
abbrev S1x512x32x1 : Shape := ⟨4, ![1, 512, 32, 1]⟩
abbrev S512x1024 : Shape := ⟨2, ![512, 1024]⟩

abbrev nBuf : Space → Nat
  | .hbm => 36
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S1024x4096, .f32⟩
  | .hbm, ⟨2, _⟩ => ⟨S1024x1024, .f32⟩
  | .hbm, ⟨3, _⟩ => ⟨S1024x1024, .f32⟩
  | .hbm, ⟨4, _⟩ => ⟨S4096x1024, .f32⟩
  | .hbm, ⟨5, _⟩ => ⟨S1x512x4096, .f32⟩
  | .hbm, ⟨6, _⟩ => ⟨S1x512x32x128, .f32⟩
  | .hbm, ⟨7, _⟩ => ⟨S1x512x1024, .f32⟩
  | .hbm, ⟨8, _⟩ => ⟨S1x512x8x128, .f32⟩
  | .hbm, ⟨9, _⟩ => ⟨S1x512x1024, .f32⟩
  | .hbm, ⟨10, _⟩ => ⟨S1x512x8x128, .f32⟩
  | .hbm, ⟨11, _⟩ => ⟨S1x512x8x4x128, .f32⟩
  | .hbm, ⟨12, _⟩ => ⟨S1x512x32x128, .f32⟩
  | .hbm, ⟨13, _⟩ => ⟨S1x512x8x4x128, .f32⟩
  | .hbm, ⟨14, _⟩ => ⟨S1x512x32x128, .f32⟩
  | .hbm, ⟨15, _⟩ => ⟨S1x32x512x512, .f32⟩
  | .hbm, ⟨16, _⟩ => ⟨S_, .f32⟩
  | .hbm, ⟨17, _⟩ => ⟨S1x32x512x512, .f32⟩
  | .hbm, ⟨18, _⟩ => ⟨S1x32x512x512, .f32⟩
  | .hbm, ⟨19, _⟩ => ⟨S_, .f32⟩
  | .hbm, ⟨20, _⟩ => ⟨S1x32x512, .f32⟩
  | .hbm, ⟨21, _⟩ => ⟨S1x32x512x1, .f32⟩
  | .hbm, ⟨22, _⟩ => ⟨S1x32x512x512, .f32⟩
  | .hbm, ⟨23, _⟩ => ⟨S1x32x512x512, .f32⟩
  | .hbm, ⟨24, _⟩ => ⟨S1x32x512x512, .f32⟩
  | .hbm, ⟨25, _⟩ => ⟨S_, .f32⟩
  | .hbm, ⟨26, _⟩ => ⟨S1x32x512, .f32⟩
  | .hbm, ⟨27, _⟩ => ⟨S1x32x512x1, .f32⟩
  | .hbm, ⟨28, _⟩ => ⟨S1x32x128x512, .f32⟩
  | .hbm, ⟨29, _⟩ => ⟨S1x512x32x128, .f32⟩
  | .hbm, ⟨30, _⟩ => ⟨S1x512x32x1, .f32⟩
  | .hbm, ⟨31, _⟩ => ⟨S1x512x32x128, .f32⟩
  | .hbm, ⟨32, _⟩ => ⟨S1x512x32x128, .f32⟩
  | .hbm, ⟨33, _⟩ => ⟨S1x512x4096, .f32⟩
  | .hbm, ⟨34, _⟩ => ⟨S1x512x1024, .f32⟩
  | .hbm, ⟨35, _⟩ => ⟨S512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Proof.Chunk.lean ====
/-
# 01_k — `Chunk`: what a device computes for 128 query rows

The kernel prints the computation for a chunk of 128 query rows four times (three chunks sent to the other devices, one
kept), cut at different places. Here it is written once: `headOut` is one attention head on a chunk, `partialOut` the
chunk's product with the device's rows of the output weights; the four printed copies are shown to be it.
-/
module

public import proofs.«01_k».proof.Proof.Gen.KernelIdeal.Skeleton

@[expose] public section

noncomputable section

namespace Cert.Chunk

open Cert.KernelIdeal Cert.KernelIdeal.Gen

open Idealize.ShloMosaic

variable {F : FTy → Type} [FloatOps F]

/-- The scaled scores of one head: query rows against all keys. -/
def scores (q : FVec F S128x128 .bf16) (k : FVec F S512x128 .bf16) : FVec F S128x512 .f32 :=
  mulf (matmul dot_S128x128_S512x128_S128x512_1_1_0_0_n_n none q k (constant S128x512 .f32 0x00000000#32))
    (broadcast S128x512 (Scalar.ofBits .f32 0x3DB504F3#32 : F .f32))

/-- The scores less their row's largest one, exponentiated. -/
def weights (s : FVec F S128x512 .f32) : FVec F S128x512 .f32 :=
  exp (subf s (broadcastTo S128x512
    (shapeCast S128x1 (multiReduction .maximumf [1] S128 s 0xFF800000#32 reduces_S128x512_S128 (.inl rfl) rfl) shapeCasts_S128_S128x1)
    broadcasts_S128x1_S128x512))

/-- The weights times the values, each row divided by its weights' sum. -/
def weighted (p : FVec F S128x512 .f32) (v : FVec F S512x128 .bf16) : FVec F S128x128 .bf16 :=
  truncf .bf16 (divf
    (matmul dot_S128x512_S512x128_S128x128_1_0_0_1_n_n none (truncf .bf16 p bitsLt_bf16_f32) v (constant S128x128 .f32 0x00000000#32))
    (broadcastTo S128x128
      (shapeCast S128x1 (multiReduction .add [1] S128 p 0x00000000#32 reduces_S128x512_S128 (.inl rfl) rfl) shapeCasts_S128_S128x1)
      broadcasts_S128x1_S128x128)) bitsLt_bf16_f32

/-- One attention head on a chunk of query rows. -/
def headOut (q : FVec F S128x128 .bf16) (k v : FVec F S512x128 .bf16) : FVec F S128x128 .bf16 :=
  weighted (weights (scores q k)) v

/-- The chunk's queries: its rows of `x` by the device's columns of the query weights. -/
def queries (wq : FVec F S1024x1024 .bf16) (xb : Vec F S1x128x1024 .f32) : FVec F S128x1024 .bf16 := k0_pay57 wq xb

/-- The eight heads of the chunk side by side; heads 0–3 read the device's first key/value head, 4–7 its second. -/
def heads (q : FVec F S128x1024 .bf16) (k v : FVec F S512x256 .bf16) : FVec F S128x1024 .bf16 :=
  let k0 := extractStridedSlice S512x128 ![0, 0] k slices_S512x256_o0_0_S512x128
  let v0 := extractStridedSlice S512x128 ![0, 0] v slices_S512x256_o0_0_S512x128
  let k1 := extractStridedSlice S512x128 ![0, 128] k slices_S512x256_o0_128_S512x128
  let v1 := extractStridedSlice S512x128 ![0, 128] v slices_S512x256_o0_128_S512x128
  concatenate S128x1024 1
    [⟨S128x128, headOut (extractStridedSlice S128x128 ![0, 0] q slices_S128x1024_o0_0_S128x128) k0 v0⟩,
     ⟨S128x128, headOut (extractStridedSlice S128x128 ![0, 128] q slices_S128x1024_o0_128_S128x128) k0 v0⟩,
     ⟨S128x128, headOut (extractStridedSlice S128x128 ![0, 256] q slices_S128x1024_o0_256_S128x128) k0 v0⟩,
     ⟨S128x128, headOut (extractStridedSlice S128x128 ![0, 384] q slices_S128x1024_o0_384_S128x128) k0 v0⟩,
     ⟨S128x128, headOut (extractStridedSlice S128x128 ![0, 512] q slices_S128x1024_o0_512_S128x128) k1 v1⟩,
     ⟨S128x128, headOut (extractStridedSlice S128x128 ![0, 640] q slices_S128x1024_o0_640_S128x128) k1 v1⟩,
     ⟨S128x128, headOut (extractStridedSlice S128x128 ![0, 768] q slices_S128x1024_o0_768_S128x128) k1 v1⟩,
     ⟨S128x128, headOut (extractStridedSlice S128x128 ![0, 896] q slices_S128x1024_o0_896_S128x128) k1 v1⟩]
    concatenates_S128x128_S128x128_S128x128_S128x128_S128x128_S128x128_S128x128_S128x128_S128x1024_d1

/-- The chunk's partial result: its heads by the device's rows of the output weights. -/
def partialOut (wq wo : FVec F S1024x1024 .bf16) (k v : FVec F S512x256 .bf16) (xb : Vec F S1x128x1024 .f32) : FVec F S128x1024 .f32 :=
  matmul dot_S128x1024_S1024x1024_S128x1024_1_0_0_1_n_n none (heads (queries wq xb) k v) wo (constant S128x1024 .f32 0x00000000#32)

/-- The partial result as it is sent: in the transfer's format, as one slot. -/
def chunkSlot (wq wo : FVec F S1024x1024 .bf16) (k v : FVec F S512x256 .bf16) (xb : Vec F S1x128x1024 .f32) : Vec F S1x128x1024 .bf16 :=
  shapeCast S1x128x1024 (truncf .bf16 (partialOut wq wo k v xb) bitsLt_bf16_f32) shapeCasts_S128x1024_S1x128x1024

section Copies

variable (wq wo : FVec F S1024x1024 .bf16) (k v : FVec F S512x256 .bf16) (xb : Vec F S1x128x1024 .f32)
  (xv : FVec F S512x1024 .bf16) (wk wv : Vec F S1024x256 .f32)

/-- The first printed copy (slot 2). -/
theorem copy1_eq :
    k0_pay22 wo (k0_pay4 xv wk) (k0_pay5 xv wv) (k0_pay6 wq xb) (k0_pay7 xv wq wk wv xb)
        (k0_pay11 (k0_pay8 xv wv) (k0_pay9 xv wq wk xb) (k0_pay10 xv wq wk xb))
        (k0_pay12 (k0_pay4 xv wk) (k0_pay5 xv wv) (k0_pay6 wq xb)) (k0_pay13 (k0_pay4 xv wk) (k0_pay5 xv wv) (k0_pay6 wq xb))
        (k0_pay17 (k0_pay14 (k0_pay6 wq xb)) (k0_pay15 (k0_pay4 xv wk)) (k0_pay16 (k0_pay5 xv wv)))
        (k0_pay18 (k0_pay4 xv wk) (k0_pay5 xv wv) (k0_pay6 wq xb)) (k0_pay19 (k0_pay5 xv wv))
        (k0_pay20 (k0_pay4 xv wk) (k0_pay6 wq xb)) (k0_pay21 (k0_pay4 xv wk) (k0_pay6 wq xb))
      = chunkSlot wq wo (k0_pay4 xv wk) (k0_pay5 xv wv) xb := rfl

/-- The second printed copy (slot 1). -/
theorem copy2_eq :
    k0_pay39 wo (k0_pay24 wq k v xb) (k0_pay25 wq k v xb) (k0_pay28 v (k0_pay26 wq xb) (k0_pay27 k)) (k0_pay29 k v (k0_pay23 wq xb))
        (k0_pay33 (k0_pay30 v) (k0_pay31 k (k0_pay23 wq xb)) (k0_pay32 k (k0_pay23 wq xb)))
        (k0_pay34 k v (k0_pay23 wq xb)) (k0_pay35 k v (k0_pay23 wq xb)) (k0_pay36 v) (k0_pay37 k (k0_pay23 wq xb)) k0_pay38
      = chunkSlot wq wo k v xb := rfl

/-- The third printed copy (slot 0). -/
theorem copy3_eq :
    k0_pay56 wo (k0_pay42 k v (k0_pay41 wq xb)) (k0_pay43 k v (k0_pay40 wq xb)) (k0_pay46 (k0_pay44 v) (k0_pay45 k (k0_pay40 wq xb)))
        (k0_pay47 k v (k0_pay40 wq xb)) (k0_pay48 k v (k0_pay40 wq xb))
        (k0_pay51 (k0_pay49 v) (k0_pay50 k (k0_pay40 wq xb)) (Scalar.ofBits .f32 0x3DB504F3#32))
        (k0_pay52 k v (k0_pay40 wq xb)) (k0_pay54 k (k0_pay40 wq xb)) (k0_pay55 k v (k0_pay40 wq xb))
      = chunkSlot wq wo k v xb := rfl

/-- The fourth printed copy, the device's own chunk. -/
theorem copy4_eq :
    k0_pay71 wo k v (k0_pay57 wq xb) (k0_pay60 (k0_pay58 v) (k0_pay59 wq k xb)) (k0_pay61 k v (k0_pay57 wq xb)) (k0_pay62 k v (k0_pay57 wq xb))
        (k0_pay65 (k0_pay63 v) (k0_pay64 k (k0_pay57 wq xb))) (k0_pay66 k v (k0_pay57 wq xb)) (k0_pay67 v)
        (k0_pay69 k (k0_pay57 wq xb)) (k0_pay70 k (k0_pay57 wq xb)) (constant S128x128 .f32 0x00000000#32)
      = partialOut wq wo k v xb := rfl

end Copies

end Cert.Chunk

end
-- ==== Proof.Protocol.lean ====
/-
# 01_k — `Protocol`: who signals, who copies, who waits, and with what contents

Four devices. On entry every device raises the barrier semaphore of the three others, each raise handing over the two
slots the raised device will write into; it waits for three raises. Then it sends each of the others that device's chunk
of 128 rows (`sent`), waits for the three chunks sent to it, adds them to its own, and sends the sum (`reduced`) to
the three others, again one slot each. Slot `s` of device `c` belongs to device `peer s c`.

Every cell has the single round 0. A barrier cell has three duties of one unit; each of the twelve transfer cells of a
device one duty of a block's credit. The payloads:
* barrier of `c`, duty `s`: the slots of device `peer s c` that `c` writes, at any contents;
* receive cell of the first exchange, slot `s`: the slot holding the chunk that `peer s c` computed for `c`;
* receive cell of the second exchange, slot `s`: the slot holding the sum of `peer s c`;
* send cells: the source back (the second exchange's source is one buffer, lent in three shares).
-/
module

public import proofs.«01_k».proof.Proof.Chunk
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Tactic

@[expose] public section

noncomputable section

namespace Cert.Mesh

open Cert.KernelIdeal Cert.KernelIdeal.Gen Cert.Chunk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## The devices -/

set_option backward.proofsInPublic true in
/-- The device `s + 1` places after `c`, around the four. -/
def peer (s : Fin 3) (c : Dev nD) : Dev nD := ⟨(c.val + s.val + 1) % 4, Nat.mod_lt _ (by decide)⟩

/-- The slot that device `c` occupies at the device of its slot `s`. -/
def opp : Fin 3 → Fin 3 := fun | 0 => 2 | 1 => 1 | 2 => 0

theorem opp_opp (s : Fin 3) : opp (opp s) = s := by revert s; decide
theorem peer_opp (s : Fin 3) (c : Dev nD) : peer (opp s) (peer s c) = c := by revert s c; decide
theorem opp_peer (s : Fin 3) (c : Dev nD) : peer s (peer (opp s) c) = c := by revert s c; decide

/-- Going `s + 1` places on is a permutation of the devices. -/
def turn (s : Fin 3) : Dev nD ≃ Dev nD := ⟨peer s, peer (opp s), peer_opp s, opp_peer s⟩

theorem dev1_eq (c : Dev nD) : (⟨k0_dev1 c, k0_dev1_lt c⟩ : Dev nD) = peer 0 c := Fin.ext (k0_dev1_eq c)
theorem dev2_eq (c : Dev nD) : (⟨k0_dev2 c, k0_dev2_lt c⟩ : Dev nD) = peer 1 c := Fin.ext (k0_dev2_eq c)
theorem dev3_eq (c : Dev nD) : (⟨k0_dev3 c, k0_dev3_lt c⟩ : Dev nD) = peer 2 c := Fin.ext (k0_dev3_eq c)
theorem dev4_eq (c : Dev nD) : (⟨k0_dev4 c, k0_dev4_lt c⟩ : Dev nD) = peer 0 c := Fin.ext (k0_dev4_eq c)
theorem dev5_eq (c : Dev nD) : (⟨k0_dev5 c, k0_dev5_lt c⟩ : Dev nD) = peer 1 c := Fin.ext (k0_dev5_eq c)
theorem dev6_eq (c : Dev nD) : (⟨k0_dev6 c, k0_dev6_lt c⟩ : Dev nD) = peer 2 c := Fin.ext (k0_dev6_eq c)
theorem dev7_eq (c : Dev nD) : (⟨k0_dev7 c, k0_dev7_lt c⟩ : Dev nD) = peer 0 c := Fin.ext (k0_dev7_eq c)
theorem dev8_eq (c : Dev nD) : (⟨k0_dev8 c, k0_dev8_lt c⟩ : Dev nD) = peer 1 c := Fin.ext (k0_dev8_eq c)
theorem dev9_eq (c : Dev nD) : (⟨k0_dev9 c, k0_dev9_lt c⟩ : Dev nD) = peer 2 c := Fin.ext (k0_dev9_eq c)

/-! ## The buffers and their slots -/

abbrev xM : Memref sig .tc .vmem S1x512x1024 .f32 := Memref.whole cc0_stg0_0
abbrev wkM : Memref sig .tc .vmem S1024x1024 .f32 := Memref.whole cc0_stg3_0
abbrev wvM : Memref sig .tc .vmem S1024x1024 .f32 := Memref.whole cc0_stg4_0
abbrev oM : Memref sig .tc .vmem S512x1024 .f32 := Memref.whole cc0_stg5_0
/-- The chunks to send, the chunks received, the sum to send, the sums received. -/
abbrev srcM : Memref sig .tc .vmem S3x128x1024 .bf16 := Memref.whole cc0_scratch0
abbrev stM : Memref sig .tc .vmem S3x128x1024 .bf16 := Memref.whole cc0_scratch1
abbrev sumM : Memref sig .tc .vmem S128x1024 .bf16 := Memref.whole cc0_scratch2
abbrev agM : Memref sig .tc .vmem S3x128x1024 .bf16 := Memref.whole cc0_scratch3

theorem slot_inb : ∀ (s : Fin 3) (a : Fin 3), (![s.val, 0, 0] : Fin 3 → ℕ) a + S1x128x1024.size a ≤ S3x128x1024.size a := by decide
abbrev slotR (s : Fin 3) : Rect S3x128x1024 := Rect.unit (s := S3x128x1024) ![s.val, 0, 0] S1x128x1024.size (slot_inb s)

/-- A slot of a three-slot buffer as a transfer names it. -/
abbrev slotM (M : Memref sig .tc .vmem S3x128x1024 .bf16) (s : Fin 3) : Memref sig .tc .vmem S128x1024 .bf16 :=
  (M.slice (slotR s) (fun _ => rfl)).squeeze S128x1024 squeezes_S1x128x1024_S128x1024

/-- The slot's elements held outright, the buffer's contents there `f`. -/
def slotPts (M : Memref sig .tc .vmem S3x128x1024 .bf16) (s : Fin 3) (c : Dev nD) (f : Buf (Elt F) (M.view.loc (c : Thread nD τ))) : sProp 𝕄 :=
  M.view.loc (c : Thread nD τ) ↦[(M.access (slotR s)).set]{fullShare} f

/-- What a load of the slot reads. -/
abbrev slotVal (M : Memref sig .tc .vmem S3x128x1024 .bf16) (s : Fin 3) (c : Dev nD) (f : Buf (Elt F) (M.view.loc (c : Thread nD τ))) :
    Vec F S1x128x1024 .bf16 := (M.access (slotR s)).read (Elt F) f

omit [FloatOps F] in
instance slotPts_storable (M) (s : Fin 3) (c : Dev nD) (f) : BI.Storable (upEmb : UEmb _ 𝕄) (slotPts (F := F) M s c f) := by
  unfold slotPts; infer_instance

omit [FloatOps F] in
/-- A transfer's view of a slot has the slot's elements. -/
theorem slotPts_view (M : Memref sig .tc .vmem S3x128x1024 .bf16) (s : Fin 3) (c : Dev nD) (f) :
    slotPts (F := F) M s c f = ((slotM M s).view.loc (c : Thread nD τ) ↦[(slotM M s).view.set]{fullShare} f : sProp 𝕄) := by
  unfold slotPts
  rw [show (slotM M s).view.set = (M.access (slotR s)).set from View.set_reshape _ _]

omit [FloatOps F] in
/-- A block written through the transfer's view of a slot is what a load of the slot reads, as one slot. -/
theorem slotVal_write (M : Memref sig .tc .vmem S3x128x1024 .bf16) (s : Fin 3) (c : Dev nD) (f : Buf (Elt F) (M.view.loc (c : Thread nD τ)))
    (w : Vec F S128x1024 .bf16) :
    slotVal M s c ((slotM M s).view.write (Elt F) f w Finset.univ) = shapeCast S1x128x1024 w shapeCasts_S128x1024_S1x128x1024 := by
  have h := View.read_write_univ (v := (slotM M s).view) (Val := Elt F) f w
  have h2 : (slotM M s).view.read (Elt F) ((slotM M s).view.write (Elt F) f w Finset.univ)
      = shapeCast S128x1024 (slotVal M s c ((slotM M s).view.write (Elt F) f w Finset.univ)) shapeCasts_S1x128x1024_S128x1024 := rfl
  rw [h2] at h
  rw [← congrArg (fun u => shapeCast S1x128x1024 u shapeCasts_S128x1024_S1x128x1024) h, shapeCast_shapeCast]

/-! ## The semaphores -/

/-- The runtime's barrier semaphore (unscoped). -/
abbrev barS : Sem sig := (SemArray.scalar (sig.barrier 0 rfl) : Sems sig S_).sem
/-- The four arrays of transfer semaphores: first exchange send and receive, second exchange send and receive. -/
abbrev arr : Fin 4 → DmaSems sig S3 := fun | 0 => cc0_scratch4 | 1 => cc0_scratch5 | 2 => cc0_scratch6 | 3 => cc0_scratch7
theorem sem_inb : ∀ (s : Fin 3) (a : Fin 1), (![s.val] : Fin 1 → ℕ) a + S1.size a ≤ S3.size a := by decide
abbrev dsem (k : Fin 4) (s : Fin 3) : DmaSem sig :=
  (((arr k).slice (Rect.unit (s := S3) ![s.val] S1.size (sem_inb s))).squeeze S_ squeezes_S1_S_).sem

/-- A device's cells: the barrier (`none`), and slot `s` of array `k`. -/
abbrev Cell : Type := Option (Fin 4 × Fin 3)
abbrev csem : Cell → SemLoc sig := fun | none => .reg barS | some ks => .dma (dsem ks.1 ks.2)
abbrev kcell (ck : Dev nD × Cell) : GSem nD τ sig := ((ck.1 : Thread nD τ), csem ck.2)
abbrev barCell (c : Dev nD) : GSem nD τ sig := kcell (c, none)
abbrev dmaCell (k : Fin 4) (s : Fin 3) (c : Dev nD) : GSem nD τ sig := kcell (c, some (k, s))

/-- Which of a device's cells a semaphore is, if any. -/
def cellOfSem : SemLoc sig → Option Cell
  | .reg b => if b = barS then some none else none
  | .dma q => if 6 ≤ q.val then some (some (⟨(q.val - 6) / 3 % 4, Nat.mod_lt _ (by decide)⟩, ⟨(q.val - 6) % 3, Nat.mod_lt _ (by decide)⟩)) else none

theorem cellOfSem_csem : ∀ k : Cell, cellOfSem (csem k) = some k := by decide
theorem csem_injective : Function.Injective csem := fun a b h => Option.some.inj (by rw [← cellOfSem_csem a, ← cellOfSem_csem b, h])
theorem kcell_injective : Function.Injective (kcell : Dev nD × Cell → GSem nD τ sig) := by
  rintro ⟨c, k⟩ ⟨c', k'⟩ h
  have h1 : c = c' := congrArg (fun g : GSem nD τ sig => g.1.1) h
  have h2 : k = k' := csem_injective (congrArg Prod.snd h)
  rw [h1, h2]

abbrev N : ℕ := (slotM stM 0).view.dmaCredit
theorem N_pos : 0 < N := View.dmaCredit_pos _ (by decide)
theorem credit_st (s : Fin 3) : (slotM stM s).view.dmaCredit = N := rfl
theorem credit_src (s : Fin 3) : (slotM srcM s).view.dmaCredit = N := rfl
theorem credit_ag (s : Fin 3) : (slotM agM s).view.dmaCredit = N := rfl
theorem credit_sum : (sumM).view.dmaCredit = N := rfl

/-! ## The contents -/

/-- The device's operands as its pipeline stages them. -/
def xs (c : Dev nD) : Vec F S1x512x1024 .f32 := (win0_0.blk (0 : Fin 1)).view.read (Elt F) ((s₀ m ρ).mem ((c : Thread nD τ).loc main_arg0))
def wqs (c : Dev nD) : Vec F S1024x1024 .f32 := (win0_1.blk (0 : Fin 1)).view.read (Elt F) ((s₀ m ρ).mem ((c : Thread nD τ).loc main_arg1))
def wos (c : Dev nD) : Vec F S1024x1024 .f32 := (win0_2.blk (0 : Fin 1)).view.read (Elt F) ((s₀ m ρ).mem ((c : Thread nD τ).loc main_arg4))
def wks (c : Dev nD) : Vec F S1024x1024 .f32 := (win0_3.blk (0 : Fin 1)).view.read (Elt F) ((s₀ m ρ).mem ((c : Thread nD τ).loc main_arg2))
def wvs (c : Dev nD) : Vec F S1024x1024 .f32 := (win0_4.blk (0 : Fin 1)).view.read (Elt F) ((s₀ m ρ).mem ((c : Thread nD τ).loc main_arg3))

theorem rows_inb : ∀ (p : Dev nD) (a : Fin 3), (![0, 128 * p.val, 0] : Fin 3 → ℕ) a + S1x128x1024.size a ≤ S1x512x1024.size a := by decide

/-- Rows `128 p …` of `x`, as device `c` holds it; -/
def xrows (c p : Dev nD) : Vec F S1x128x1024 .f32 :=
  xM.view.readAt (Elt F) (Rect.unit (s := S1x512x1024) ![0, 128 * p.val, 0] S1x128x1024.size (rows_inb p)).toLoadRect (xs m ρ c)
/-- the device's columns of the key and value weights; -/
def wkcols (c : Dev nD) : Vec F S1024x256 .f32 :=
  wkM.view.readAt (Elt F) (Rect.unit (s := S1024x1024) (k0_off1 c) S1024x256.size (k0_off1_inb c)).toLoadRect (wks m ρ c)
def wvcols (c : Dev nD) : Vec F S1024x256 .f32 :=
  wvM.view.readAt (Elt F) (Rect.unit (s := S1024x1024) (k0_off1 c) S1024x256.size (k0_off1_inb c)).toLoadRect (wvs m ρ c)
/-- the device's keys and values, over all 512 rows. -/
def keys (c : Dev nD) : FVec F S512x256 .bf16 := k0_pay4 (k0_pay1 (xs m ρ c)) (wkcols m ρ c)
def vals (c : Dev nD) : FVec F S512x256 .bf16 := k0_pay5 (k0_pay1 (xs m ρ c)) (wvcols m ρ c)

omit [FloatOps F] in
/-- A load of 128 rows of `x` at an offset that is device `p`'s. -/
theorem read_rows (c p : Dev nD) (off : Fin 3 → ℕ) (h : ∀ a, off a + S1x128x1024.size a ≤ S1x512x1024.size a)
    (e : off = ![0, 128 * p.val, 0]) :
    xM.view.readAt (Elt F) (Rect.unit (s := S1x512x1024) off S1x128x1024.size h).toLoadRect (xs m ρ c) = xrows m ρ c p := by
  subst e; rfl

/-- The chunk device `c` computes for the rows of device `p`, as sent; -/
def sent (c p : Dev nD) : Vec F S1x128x1024 .bf16 :=
  chunkSlot (k0_pay2 (wqs m ρ c)) (k0_pay3 (wos m ρ c)) (keys m ρ c) (vals m ρ c) (xrows m ρ c p)
/-- the device's own chunk; -/
def own (c : Dev nD) : FVec F S128x1024 .f32 :=
  partialOut (k0_pay2 (wqs m ρ c)) (k0_pay3 (wos m ρ c)) (keys m ρ c) (vals m ρ c) (xrows m ρ c c)
/-- the four chunks for the device's rows added up, in the order the kernel adds them; -/
def total (c : Dev nD) : FVec F S128x1024 .f32 :=
  k0_pay73 (k0_pay72 (own m ρ c) (sent m ρ (peer 0 c) c)) (sent m ρ (peer 1 c) c) (sent m ρ (peer 2 c) c)
/-- the sum as it is stored for sending. -/
def reduced (c : Dev nD) : FVec F S128x1024 .bf16 :=
  k0_pay74 (k0_pay72 (own m ρ c) (sent m ρ (peer 0 c) c)) (sent m ρ (peer 1 c) c) (sent m ρ (peer 2 c) c)
/-- The sum as one slot of the receiver. -/
def gathered (c : Dev nD) : Vec F S1x128x1024 .bf16 := shapeCast S1x128x1024 (reduced m ρ c) shapeCasts_S128x1024_S1x128x1024

/-- The share of the sum's buffer lent to the transfer of slot `s`. -/
def lent : Fin 3 → PosShare TreeShare := fun | 0 => fullShare.left | 1 => fullShare.right.left | 2 => fullShare.right.right

def sumPts (c : Dev nD) (q : PosShare TreeShare) (f : Buf (Elt F) (sumM.view.loc (c : Thread nD τ))) : sProp 𝕄 :=
  sumM.view.loc (c : Thread nD τ) ↦[sumM.view.set]{q} f

omit [FloatOps F] in
instance sumPts_storable (c : Dev nD) (q) (f) : BI.Storable (upEmb : UEmb _ 𝕄) (sumPts (F := F) c q f) := by
  unfold sumPts; infer_instance

/-! ## The schedule -/

/-- A slot held at contents that read `w`. -/
def slotAt (M : Memref sig .tc .vmem S3x128x1024 .bf16) (s : Fin 3) (c : Dev nD) (w : Vec F S1x128x1024 .bf16) : sProp 𝕄 :=
  iprop(∃ f, ⌜slotVal M s c f = w⌝ ∗ slotPts M s c f)

def barPay (c : Dev nD) (s : Fin 3) : sProp 𝕄 :=
  iprop((∃ f, slotPts stM (opp s) (peer s c) f) ∗ ∃ f, slotPts agM (opp s) (peer s c) f)

/-- The payload of slot `s` of array `k` on device `c`. -/
def dmaPay (k : Fin 4) (s : Fin 3) (c : Dev nD) : sProp 𝕄 :=
  match k with
  | 0 => iprop(∃ f, slotPts srcM s c f)
  | 1 => slotAt stM s c (sent m ρ (peer s c) c)
  | 2 => iprop(sumPts c (lent s) (reduced m ρ c))
  | 3 => slotAt agM s c (gathered m ρ (peer s c))

instance barPay_storable (c : Dev nD) (s : Fin 3) : BI.Storable (upEmb : UEmb _ 𝕄) (barPay (F := F) c s) := by
  unfold barPay; infer_instance
instance dmaPay_storable (k : Fin 4) (s : Fin 3) (c : Dev nD) : BI.Storable (upEmb : UEmb _ 𝕄) (dmaPay (F := F) m ρ k s c) := by
  unfold dmaPay slotAt; split <;> infer_instance

def meshRd : Rounds.Schedule (GSem nD τ sig) (Fin 3) 𝕄 where
  duties g r := if r = 0 ∧ g.1.2 = .tc then (match cellOfSem g.2 with | some none => Finset.univ | some (some _) => {0} | none => ∅) else ∅
  unitless _ := False
  amount g _ _ := match cellOfSem g.2 with | some none => 1 | _ => N
  payload g _ d := match cellOfSem g.2 with | some none => barPay g.1.1 d | some (some (k, s)) => dmaPay m ρ k s g.1.1 | none => iprop(emp)
  amount_pos g _ _ _ := by split; exacts [Nat.one_pos, N_pos]

instance meshRd_payload_storable (g : GSem nD τ sig) (r : ℕ) (d : Fin 3) :
    BI.Storable (upEmb : UEmb _ 𝕄) ((meshRd (F := F) m ρ).payload g r d) := by
  show BI.Storable upEmb (match cellOfSem g.2 with | some none => barPay g.1.1 d | some (some (k, s)) => dmaPay m ρ k s g.1.1 | none => iprop(emp))
  split <;> infer_instance

section Sched
variable (k : Fin 4) (s : Fin 3) (c : Dev nD)

theorem duties_bar : (meshRd (F := F) m ρ).duties (barCell c) 0 = Finset.univ := by
  dsimp only [meshRd]; rw [if_pos ⟨rfl, rfl⟩, cellOfSem_csem]
theorem duties_dma : (meshRd (F := F) m ρ).duties (dmaCell k s c) 0 = {0} := by
  dsimp only [meshRd]; rw [if_pos ⟨rfl, rfl⟩, cellOfSem_csem]
theorem duties_later (g : GSem nD τ sig) : ∀ r, 1 ≤ r → (meshRd (F := F) m ρ).duties g r = ∅ :=
  fun r hr => by dsimp only [meshRd]; rw [if_neg fun h => by omega]
theorem amount_bar (d : Fin 3) : (meshRd (F := F) m ρ).amount (barCell c) 0 d = 1 := by
  dsimp only [meshRd]; rw [cellOfSem_csem]
theorem amount_dma (d : Fin 3) : (meshRd (F := F) m ρ).amount (dmaCell k s c) 0 d = N := by
  dsimp only [meshRd]; rw [cellOfSem_csem]
theorem expect_bar : (meshRd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_dma : (meshRd (F := F) m ρ).expect (dmaCell k s c) 0 = N := by
  unfold Schedule.expect Schedule.amountOf; rw [duties_dma, Finset.sum_singleton, amount_dma]
theorem payload_bar (d : Fin 3) : (meshRd (F := F) m ρ).payload (barCell c) 0 d = barPay c d := by
  dsimp only [meshRd]; rw [cellOfSem_csem]
theorem payload_dma (d : Fin 3) : (meshRd (F := F) m ρ).payload (dmaCell k s c) 0 d = dmaPay m ρ k s c := by
  dsimp only [meshRd]; rw [cellOfSem_csem]

/-- All of a barrier cell's payloads. -/
theorem rest_bar : bigSep ((meshRd (F := F) m ρ).duties (barCell c) 0 \ ∅) (fun d => (meshRd (F := F) m ρ).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_bar, payload_bar, payload_bar]
  rfl
theorem rest_dma : bigSep ((meshRd (F := F) m ρ).duties (dmaCell k s c) 0 \ ∅) (fun d => (meshRd (F := F) m ρ).payload (dmaCell k s c) 0 d)
    = dmaPay m ρ k s c := by
  rw [Finset.sdiff_empty, duties_dma, bigSep_singleton, payload_dma]

end Sched

/-! ## What a device owes at launch; the levels -/

/-- What remains to be paid from the second exchange on, from the first on, and at launch: the payments are taken off
    the right, in program order. -/
def Oag (c : Dev nD) : CellTallies nD τ sig Unit :=
  0 + tallyAt (dmaCell 3 0 (peer 2 c)) () N + tallyAt (dmaCell 3 1 (peer 1 c)) () N + tallyAt (dmaCell 3 2 (peer 0 c)) () N
def Ors (c : Dev nD) : CellTallies nD τ sig Unit :=
  Oag c + tallyAt (dmaCell 1 0 (peer 2 c)) () N + tallyAt (dmaCell 1 1 (peer 1 c)) () N + tallyAt (dmaCell 1 2 (peer 0 c)) () N
def O₀ (c : Dev nD) : CellTallies nD τ sig Unit :=
  Ors c + tallyAt (barCell (peer 2 c)) () 1 + tallyAt (barCell (peer 1 c)) () 1 + tallyAt (barCell (peer 0 c)) () 1

def L (g : GSem nD τ sig) : Finset Unit := if g.1.2 = .tc then {()} else ∅
/-- Barrier cells at 1, the first exchange's receive cells at 2, the second's at 3, every other cell at 0. -/
def lv (g : GSem nD τ sig) (_ : Unit) : ℕ :=
  match cellOfSem g.2 with | some none => 1 | some (some (1, _)) => 2 | some (some (3, _)) => 3 | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by dsimp only [lv]; rw [cellOfSem_csem]
theorem lv_rs (s : Fin 3) (c : Dev nD) (u : Unit) : lv (dmaCell 1 s c) u = 2 := by dsimp only [lv]; rw [cellOfSem_csem]; rfl
theorem lv_ag (s : Fin 3) (c : Dev nD) (u : Unit) : lv (dmaCell 3 s c) u = 3 := by dsimp only [lv]; rw [cellOfSem_csem]; rfl

/-- Everything in `O` lies on a core's cell above level `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)

theorem above_add {n : ℕ} {O : CellTallies nD τ sig Unit} (h : Above n O) (c : Dev nD) (k : Cell) (a : ℕ)
    (hk : n < lv (kcell (c, k)) ()) : Above n (O + tallyAt (kcell (c, k)) () a) := fun g u hg => by
  rw [Pi.add_apply, Finsupp.add_apply, tallyAt_apply] at hg
  by_cases e : g = kcell (c, k) ∧ u = ()
  · rw [e.1]; exact ⟨rfl, hk⟩
  · rw [if_neg e, Nat.add_zero] at hg; exact h g u hg

theorem above_ag (c : Dev nD) {n : ℕ} (h : n < 3) : Above n (Oag c) := by
  unfold Oag
  refine above_add (above_add (above_add (above_zero n) _ _ _ ?_) _ _ _ ?_) _ _ _ ?_ <;> exact lt_of_lt_of_eq h (lv_ag _ _ _).symm
theorem above_rs (c : Dev nD) {n : ℕ} (h : n < 2) : Above n (Ors c) := by
  unfold Ors
  refine above_add (above_add (above_add (above_ag c (by omega)) _ _ _ ?_) _ _ _ ?_) _ _ _ ?_ <;> exact lt_of_lt_of_eq h (lv_rs _ _ _).symm
theorem above_O₀ (c : Dev nD) : Above 0 (O₀ c) := by
  unfold O₀
  refine above_add (above_add (above_add (above_rs c (by omega)) _ _ _ ?_) _ _ _ ?_) _ _ _ ?_ <;> exact lt_of_lt_of_eq Nat.one_pos (lv_bar _ _).symm

omit [FloatOps F] in
/-- A device may wait on a cell not above `n` while all it owes lies above `n`. -/
theorem mayWait_above (c : Dev nD) (sm : SemLoc sig) (n : ℕ) (hs : lv ((c : Thread nD τ), sm) () ≤ n) {O : CellTallies nD τ sig Unit}
    (hO : Above n O) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rw [L, if_pos (hO g u hg).1]; exact Finset.mem_singleton_self _)
    (fun p hp => by rw [Finset.mem_singleton.mp hp]; exact hs)
    (fun g u hg => (hO g u hg).2)

end Cert.Mesh

end
-- ==== Proof.Steps.lean ====
/-
# 01_k — `Steps`: the rules of one raise, one copy, one wait, one slot access

Each of the kernel's effects, stated once for any of its three peers or slots, so that the body's run only names which.
-/
module

public import proofs.«01_k».proof.Proof.Protocol

@[expose] public section

noncomputable section

namespace Cert.Mesh

open Cert.KernelIdeal Cert.KernelIdeal.Gen Cert.Chunk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Every cell's invariant, under the names the launch gave them, and that every cell is at round 0. -/
def records (K : Dev nD × Cell → ℕ) : sProp 𝕄 :=
  iprop((bigSep Finset.univ fun ck : Dev nD × Cell => cellInv ER (meshRd m ρ) (K ck) (kcell ck))
    ∗ bigSep Finset.univ fun ck : Dev nD × Cell => reached ER (kcell ck) 0)

instance records_persistent (K : Dev nD × Cell → ℕ) : BI.Persistent (records (F := F) m ρ K) := by unfold records; infer_instance

theorem inv_of_records (K : Dev nD × Cell → ℕ) (ck : Dev nD × Cell) :
    records (F := F) m ρ K ⊢ cellInv ER (meshRd m ρ) (K ck) (kcell ck) := by
  show iprop((bigSep Finset.univ fun ck : Dev nD × Cell => (cellInv ER (meshRd m ρ) (K ck) (kcell ck) : sProp 𝕄)) ∗ _) ⊢ _
  exact (sep_mono_left (bigSep_elim (Finset.mem_univ ck))).trans sep_elim_left

theorem reached_of_records (K : Dev nD × Cell → ℕ) (ck : Dev nD × Cell) :
    records (F := F) m ρ K ⊢ reached ER (kcell ck) 0 := by
  show iprop(_ ∗ bigSep Finset.univ fun ck : Dev nD × Cell => (reached ER (kcell ck) 0 : sProp 𝕄)) ⊢ _
  exact (sep_mono_right (bigSep_elim (Finset.mem_univ ck))).trans sep_elim_right

/-- The thread's remaining debt, at whatever waits it has made. -/
def owing (c : Dev nD) (O : CellTallies nD τ sig Unit) : sProp 𝕄 := iprop(∃ W, owes (c : Thread nD τ) O W)

section Rules

variable (K : Dev nD × Cell → ℕ)

/-- The raise of the barrier of the device `s + 1` places on, handing over the two slots that device writes. -/
theorem raise_peer {α : Type} {Q : α → sProp 𝕄} {k : PUnit → Prog (TpuEff nD τ sig (Elt F) Λ₀ .tc) α}
    (s : Fin 3) (c n : Dev nD) (hn : n = peer s c) {O : CellTallies nD τ sig Unit} :
    iprop(records m ρ K ∗ owing c (O + tallyAt (barCell (peer s c)) () 1) ∗ dutyTok ER (barCell (peer s c)) 0 (opp s)
        ∗ (∃ f, slotPts stM s c f) ∗ ∃ f, slotPts agM s c f)
      ⊢ iprop((owing c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS ((1 : ℕ) : ℤ)) k) Q) := by
  subst hn
  unfold owing
  iintro ⟨#HR, ⟨%W, HO⟩, Ht, Hst, Hag⟩ Hk
  iapply (Rounds.wp_signal 𝒱₀ ER (meshRd m ρ) (c : Thread nD τ) none (dst := (peer s c : Thread nD τ)) (κ := K (peer s c, none))
      (r := 0) (d := opp s) (by rw [duties_bar]; exact Finset.mem_univ _) (amount_bar m ρ (peer s c) (opp s)) () O rfl (W := W)) $$ [HO Ht Hst Hag]
  · isplitr; · iapply (inv_of_records m ρ K (peer s c, none)); iexact HR
    isplitl [HO]; · iexact HO
    isplitl [Ht]; · iexact Ht
    isplitl [Hst Hag]
    · rw [payload_bar]; unfold barPay; rw [opp_opp, peer_opp]
      isplitl [Hst] <;> iassumption
    · iapply (reached_of_records m ρ K (peer s c, none)); iexact HR
  iintro HO
  iapply Hk
  iexists W; iexact HO

/-- The wait for the three raises: the slots this device writes on each of the three others, and its barrier cell closed. -/
theorem wait_barrier {α : Type} {Q : α → sProp 𝕄} {k : PUnit → Prog (TpuEff nD τ sig (Elt F) Λ₀ .tc) α}
    (c : Dev nD) {O : CellTallies nD τ sig Unit} (hO : Above 1 O) :
    iprop(records m ρ K ∗ levAts L lv ∗ cred (tallyAt (barCell c) () 3) ∗ owing c O ∗ atPos ER (barCell c) 0 ∅ 0)
      ⊢ iprop((owing c O ∗ semVal (barCell c) 0 ∗ barPay c 0 ∗ barPay c 1 ∗ barPay c 2
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 3) k) Q) := by
  unfold owing
  iintro ⟨#HR, #Hlev, Hc, ⟨%W, HO⟩, Hat⟩ Hk
  iapply (Rounds.wp_wait_rest_token 𝒱₀ ER (meshRd m ρ) (c : Thread nD τ) none (κ := K (c, none))
      (wpE_semWait_eq 𝒱₀ (c : Thread nD τ) none Set.univ) (Set.mem_univ _) () (O := O) (W := W) (R := 0) (m := 0) (T := ∅)
      (by rw [expect_bar])) $$ [Hc HO Hat]
  · isplitr; · iapply (inv_of_records m ρ K (c, none)); iexact HR
    isplitl [Hc]; · iexact Hc
    isplitl [HO]; · iexact HO
    isplitr; · iapply (mayWait_above c _ 1 (le_of_eq (lv_bar c ())) hO); iexact Hlev
    iexact Hat
  iintro ⟨HO, Hat, -, Hpay⟩
  ihave Hp := (Entails.of_eq (rest_bar m ρ c)) $$ Hpay
  icases Hp with ⟨H0, H1, H2⟩
  imod (Rounds.cell_close ER (meshRd m ρ) (Set.mem_univ (K (c, none))) (fun h => h) (R := 0 + 1) (duties_later m ρ (barCell c))) $$ [Hat] with Hz
  · isplitr; · iapply (inv_of_records m ρ K (c, none)); iexact HR
    iexact Hat
  iapply Hk
  isplitl [HO]; · iexists _; iexact HO
  isplitl [Hz]; · iexact Hz
  isplitl [H0]; · iexact H0
  isplitl [H1] <;> iassumption

/-- The wait on the cell of slot `s` of array `a`: its payload, and the cell closed. -/
theorem wait_dma {α : Type} {Q : α → sProp 𝕄} {k : PUnit → Prog (TpuEff nD τ sig (Elt F) Λ₀ .tc) α}
    (a : Fin 4) (s : Fin 3) (c : Dev nD) {O : CellTallies nD τ sig Unit} (n : ℕ) (hl : lv (dmaCell a s c) () ≤ n) (hO : Above n O)
    {sem : DmaSem sig} (hs : sem = dsem a s) {s' : Shape} {src : Memref sig .tc .vmem s' .bf16} {sd : Shape} {dst : Memref sig .tc .vmem sd .bf16}
    (hN : dst.view.dmaCredit = N) {hsrc : src.view.WordExact} {hdst : dst.view.WordExact} :
    iprop(records m ρ K ∗ levAts L lv ∗ cred (tallyAt (dmaCell a s c) () N) ∗ owing c O ∗ atPos ER (dmaCell a s c) 0 ∅ 0)
      ⊢ iprop((owing c O ∗ semVal (dmaCell a s c) 0 ∗ dmaPay m ρ a s c
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hs
  unfold owing
  iintro ⟨#HR, #Hlev, Hc, ⟨%W, HO⟩, Hat⟩ Hk
  iapply (Rounds.wp_wait_rest_token 𝒱₀ ER (meshRd m ρ) (c : Thread nD τ) none (κ := K (c, some (a, s))) (sm := .dma (dsem a s)) (k' := N)
      (fun P => (wpE_waitDma2_eq 𝒱₀ (c : Thread nD τ) none Set.univ P).trans (by rw [hN])) (Set.mem_univ _) () (O := O) (W := W) (R := 0) (m := 0) (T := ∅)
      (by rw [Nat.zero_add]; exact (expect_dma m ρ a s c).symm)) $$ [Hc HO Hat]
  · isplitr; · iapply (inv_of_records m ρ K (c, some (a, s))); iexact HR
    isplitl [Hc]; · iexact Hc
    isplitl [HO]; · iexact HO
    isplitr; · iapply (mayWait_above c _ n hl hO); iexact Hlev
    iexact Hat
  iintro ⟨HO, Hat, -, Hpay⟩
  ihave Hp := (Entails.of_eq (rest_dma m ρ a s c)) $$ Hpay
  imod (Rounds.cell_close ER (meshRd m ρ) (Set.mem_univ (K (c, some (a, s)))) (fun h => h) (R := 0 + 1) (duties_later m ρ (dmaCell a s c))) $$ [Hat] with Hz
  · isplitr; · iapply (inv_of_records m ρ K (c, some (a, s))); iexact HR
    iexact Hat
  iapply Hk
  isplitl [HO]; · iexists _; iexact HO
  isplitl [Hz] <;> iassumption

/-- The source of a chunk's copy, given back. -/
theorem pay_src (s : Fin 3) (c : Dev nD) (f : Buf (Elt F) (srcM.view.loc (c : Thread nD τ))) :
    ((slotM srcM s).view.loc (c : Thread nD τ) ↦[(slotM srcM s).view.set]{fullShare} f : sProp 𝕄) ⊢ (meshRd m ρ).payload (dmaCell 0 s c) 0 0 := by
  rw [payload_dma, ← slotPts_view]
  show _ ⊢ iprop(∃ f, slotPts srcM s c f)
  iintro H; iexists f; iexact H

/-- The slot a chunk has landed in. -/
theorem pay_chunk (s : Fin 3) (c q : Dev nD) (hq : q = peer s c) (f : Buf (Elt F) (srcM.view.loc (q : Thread nD τ))) (fd : Buf (Elt F) (stM.view.loc (c : Thread nD τ)))
    (hf : slotVal srcM s q f = sent m ρ q c) :
    ((slotM stM s).view.loc (c : Thread nD τ) ↦[(slotM stM s).view.set]{fullShare}
        ((slotM stM s).view.write (Elt F) fd ((slotM srcM s).view.read (Elt F) f) Finset.univ) : sProp 𝕄) ⊢ (meshRd m ρ).payload (dmaCell 1 s c) 0 0 := by
  rw [payload_dma, ← slotPts_view]
  show _ ⊢ slotAt stM s c (sent m ρ (peer s c) c)
  unfold slotAt
  iintro H; iexists _
  isplitr; rotate_left; · iexact H
  ipureintro
  rw [slotVal_write, ← hq, ← hf]
  exact shapeCast_shapeCast (slotVal srcM s q f) shapeCasts_S1x128x1024_S128x1024 shapeCasts_S128x1024_S1x128x1024

/-- The slot a sum has landed in. -/
theorem pay_sum (s : Fin 3) (c q : Dev nD) (hq : q = peer s c) (fd : Buf (Elt F) (agM.view.loc (c : Thread nD τ))) :
    ((slotM agM s).view.loc (c : Thread nD τ) ↦[(slotM agM s).view.set]{fullShare}
        ((slotM agM s).view.write (Elt F) fd (sumM.view.read (Elt F) (reduced m ρ q)) Finset.univ) : sProp 𝕄) ⊢ (meshRd m ρ).payload (dmaCell 3 s c) 0 0 := by
  rw [payload_dma, ← slotPts_view]
  show _ ⊢ slotAt agM s c (gathered m ρ (peer s c))
  unfold slotAt
  iintro H; iexists _
  isplitr; rotate_left; · iexact H
  ipureintro
  rw [slotVal_write, ← hq]
  rfl

theorem mem_dma (a : Fin 4) (s : Fin 3) (c : Dev nD) : (0 : Fin 3) ∈ (meshRd (F := F) m ρ).duties (dmaCell a s c) 0 := by
  rw [duties_dma]; exact Finset.mem_singleton_self _

/-- The copy of a chunk to the device `j + 1` places on. -/
theorem send_chunk {α : Type} {Q : α → sProp 𝕄} {k : PUnit → Prog (TpuEff nD τ sig (Elt F) Λ₀ .tc) α}
    (j : Fin 3) (c n : Dev nD) (hn : n = peer j c) {O : CellTallies nD τ sig Unit}
    {sS sR : SemLoc sig} (hS : sS = .dma (dsem 0 (opp j))) (hR : sR = .dma (dsem 1 (opp j)))
    {src dst : Memref sig .tc .vmem S128x1024 .bf16} (es : src = slotM srcM (opp j)) (ed : dst = slotM stM (opp j))
    {hsc : (dst : Memref sig (Dev.tc n : Thread nD τ).2.kind .vmem S128x1024 .bf16).view.ref.isScScratch = false}
    {hsrc : src.view.WordExact} {hdst : dst.view.WordExact}
    {hsem : DmaTarget.Typed .vmem sR (.remote (Dev.tc n : Thread nD τ) (dst : Memref sig .tc .vmem S128x1024 .bf16) sS hsc)}
    {f : Buf (Elt F) ((srcM).view.loc (c : Thread nD τ))} (hf : slotVal srcM (opp j) c f = sent m ρ c (peer j c)) :
    iprop(records m ρ K ∗ slotPts srcM (opp j) c f ∗ (∃ fd, slotPts stM (opp j) (peer j c) fd)
        ∗ owing c (O + tallyAt (dmaCell 1 (opp j) (peer j c)) () N)
        ∗ dutyTok ER (dmaCell 0 (opp j) c) 0 0 ∗ dutyTok ER (dmaCell 1 (opp j) (peer j c)) 0 0)
      ⊢ iprop(((cred (tallyAt (dmaCell 0 (opp j) c) () N) ∗ owing c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst sS hsc) sR hsrc hdst hsem) k) Q) := by
  subst hn hS hR es ed
  unfold owing
  iintro ⟨#HR, Hsrc, ⟨%fd, Hdst⟩, ⟨%W, HO⟩, Ht1, Ht2⟩ Hk
  ihave Hsrc' := (Entails.of_eq (slotPts_view srcM (opp j) c f)) $$ Hsrc
  ihave Hdst' := (Entails.of_eq (slotPts_view stM (opp j) (peer j c) fd)) $$ Hdst
  iapply (Rounds.wp_send_pointsTo 𝒱₀ ER (meshRd m ρ) (c : Thread nD τ) none (κ₁ := K (c, some (0, opp j))) (κ₂ := K (peer j c, some (1, opp j)))
      (src := slotM srcM (opp j)) (dst := slotM stM (opp j)) (c' := (peer j c : Thread nD τ)) (sS := .dma (dsem 0 (opp j))) (sem := .dma (dsem 1 (opp j)))
      (r₁ := 0) (r₂ := 0) (d₁ := 0) (d₂ := 0) (q := fullShare) (fs := f) (fd := fd)
      (mem_dma m ρ 0 (opp j) c) (mem_dma m ρ 1 (opp j) (peer j c))
      () () N (credit_st (opp j)) (amount_dma m ρ 0 (opp j) c 0) (amount_dma m ρ 1 (opp j) (peer j c) 0) O rfl (W := W)
      (pay_src m ρ (opp j) c f) (pay_chunk m ρ (opp j) (peer j c) c (peer_opp j c).symm f fd hf)) $$ [Hsrc' Hdst' HO Ht1 Ht2]
  · isplitr; · iapply (inv_of_records m ρ K (c, some (0, opp j))); iexact HR
    isplitr; · iapply (inv_of_records m ρ K (peer j c, some (1, opp j))); iexact HR
    isplitl [Hsrc']; · iexact Hsrc'
    isplitl [Hdst']; · iexact Hdst'
    isplitl [HO]; · iexact HO
    isplitl [Ht1]; · iexact Ht1
    isplitr; · iapply (reached_of_records m ρ K (c, some (0, opp j))); iexact HR
    isplitl [Ht2]; · iexact Ht2
    iapply (reached_of_records m ρ K (peer j c, some (1, opp j))); iexact HR
  iintro ⟨Hc, HO⟩
  iapply Hk
  isplitl [Hc]; · iexact Hc
  iexists W; iexact HO

/-- The copy of the sum to the device `j + 1` places on, lending the share of that slot. -/
theorem send_sum {α : Type} {Q : α → sProp 𝕄} {k : PUnit → Prog (TpuEff nD τ sig (Elt F) Λ₀ .tc) α}
    (j : Fin 3) (c n : Dev nD) (hn : n = peer j c) {O : CellTallies nD τ sig Unit}
    {sS sR : SemLoc sig} (hS : sS = .dma (dsem 2 (opp j))) (hR : sR = .dma (dsem 3 (opp j)))
    {dst : Memref sig .tc .vmem S128x1024 .bf16} (ed : dst = slotM agM (opp j))
    {hsc : (dst : Memref sig (Dev.tc n : Thread nD τ).2.kind .vmem S128x1024 .bf16).view.ref.isScScratch = false}
    {hsrc : sumM.view.WordExact} {hdst : dst.view.WordExact}
    {hsem : DmaTarget.Typed .vmem sR (.remote (Dev.tc n : Thread nD τ) (dst : Memref sig .tc .vmem S128x1024 .bf16) sS hsc)} :
    iprop(records m ρ K ∗ sumPts c (lent (opp j)) (reduced m ρ c) ∗ (∃ fd, slotPts agM (opp j) (peer j c) fd)
        ∗ owing c (O + tallyAt (dmaCell 3 (opp j) (peer j c)) () N)
        ∗ dutyTok ER (dmaCell 2 (opp j) c) 0 0 ∗ dutyTok ER (dmaCell 3 (opp j) (peer j c)) 0 0)
      ⊢ iprop(((cred (tallyAt (dmaCell 2 (opp j) c) () N) ∗ owing c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sumM (.remote (Dev.tc n : Thread nD τ) dst sS hsc) sR hsrc hdst hsem) k) Q) := by
  subst hn hS hR ed
  unfold owing sumPts
  iintro ⟨#HR, Hsrc, ⟨%fd, Hdst⟩, ⟨%W, HO⟩, Ht1, Ht2⟩ Hk
  ihave Hdst' := (Entails.of_eq (slotPts_view agM (opp j) (peer j c) fd)) $$ Hdst
  iapply (Rounds.wp_send_pointsTo 𝒱₀ ER (meshRd m ρ) (c : Thread nD τ) none (κ₁ := K (c, some (2, opp j))) (κ₂ := K (peer j c, some (3, opp j)))
      (src := sumM) (dst := slotM agM (opp j)) (c' := (peer j c : Thread nD τ)) (sS := .dma (dsem 2 (opp j))) (sem := .dma (dsem 3 (opp j)))
      (r₁ := 0) (r₂ := 0) (d₁ := 0) (d₂ := 0) (q := lent (opp j)) (fs := reduced m ρ c) (fd := fd)
      (mem_dma m ρ 2 (opp j) c) (mem_dma m ρ 3 (opp j) (peer j c))
      () () N (credit_ag (opp j)) (amount_dma m ρ 2 (opp j) c 0) (amount_dma m ρ 3 (opp j) (peer j c) 0) O rfl (W := W)
      (by rw [payload_dma]; exact BI.Entails.refl _) (pay_sum m ρ (opp j) (peer j c) c (peer_opp j c).symm fd)) $$ [Hsrc Hdst' HO Ht1 Ht2]
  · isplitr; · iapply (inv_of_records m ρ K (c, some (2, opp j))); iexact HR
    isplitr; · iapply (inv_of_records m ρ K (peer j c, some (3, opp j))); iexact HR
    isplitl [Hsrc]; · iexact Hsrc
    isplitl [Hdst']; · iexact Hdst'
    isplitl [HO]; · iexact HO
    isplitl [Ht1]; · iexact Ht1
    isplitr; · iapply (reached_of_records m ρ K (c, some (2, opp j))); iexact HR
    isplitl [Ht2]; · iexact Ht2
    iapply (reached_of_records m ρ K (peer j c, some (3, opp j))); iexact HR
  iintro ⟨Hc, HO⟩
  iapply Hk
  isplitl [Hc]; · iexact Hc
  iexists W; iexact HO

/-- A load of a slot. -/
theorem load_slot {α : Type} {Q : α → sProp 𝕄}
    (M : Memref sig .tc .vmem S3x128x1024 .bf16) (s : Fin 3) (c : Dev nD) {f : Buf (Elt F) (M.view.loc (c : Thread nD τ))}
    {hl : M.view.LoadsAt (slotR s).toLoadRect} {k : Vec F S1x128x1024 .bf16 → Prog (TpuEff nD τ sig (Elt F) Λ₀ .tc) α} :
    slotPts M s c f
      ⊢ iprop((slotPts M s c f -∗ wp frame (wpE (defs₀ (F := F)) 𝒱₀ (c : Thread nD τ) none) Set.univ (k (slotVal M s c f)) Q)
          -∗ wp frame (wpE (defs₀ (F := F)) 𝒱₀ (c : Thread nD τ) none) Set.univ (.op (.load M (slotR s).toLoadRect hl) k) Q) :=
  wp_load_rect 𝒱₀ (c : Thread nD τ) none Set.univ (m := M) (r := slotR s) (Finset.Subset.refl _)

/-- A store of a slot: a load of it now reads what was stored. -/
theorem store_slot {α : Type} {Q : α → sProp 𝕄} {k : PUnit → Prog (TpuEff nD τ sig (Elt F) Λ₀ .tc) α}
    (M : Memref sig .tc .vmem S3x128x1024 .bf16) (s : Fin 3) (c : Dev nD) {f : Buf (Elt F) (M.view.loc (c : Thread nD τ))}
    {w : Vec F S1x128x1024 .bf16} {hx : (M.access (slotR s)).Stores Finset.univ} {hm : Finset.univ = Finset.univ ∨ ∀ a, (slotR s).stride a = 1} :
    slotPts M s c f
      ⊢ iprop((slotAt M s c w -∗ wp frame (wpE (defs₀ (F := F)) 𝒱₀ (c : Thread nD τ) none) Set.univ (k ⟨⟩) Q)
          -∗ wp frame (wpE (defs₀ (F := F)) 𝒱₀ (c : Thread nD τ) none) Set.univ (.op (.store M (slotR s) w Finset.univ hx hm) k) Q) := by
  unfold slotPts
  iintro H Hk
  iapply (wp_store 𝒱₀ (c : Thread nD τ) none Set.univ (m := M) (r := slotR s) (Mk := Finset.univ) (by rw [View.setOn_univ])) $$ H
  iintro H
  iapply Hk
  unfold slotAt slotPts
  iexists _
  isplitr; rotate_left; · iexact H
  ipureintro
  exact View.read_write_univ (v := M.access (slotR s)) (Val := Elt F) f w

end Rules

end Cert.Mesh

end
-- ==== Proof.Data.lean ====
/-
# 01_k — `Data`: what a device starts from, ends with, and leaves in its result

The result of a device: its own rows at the sum itself, the rows of every other device at that device's sum as it was
stored for sending.
-/
module

public import proofs.«01_k».proof.Proof.Steps

@[expose] public section

noncomputable section

namespace Cert.Mesh

open Cert.KernelIdeal Cert.KernelIdeal.Gen Cert.Chunk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The result -/

/-- The row of its device's block that a row of the result is, and the device. -/
def rowIx (i : S512x1024.Idx) : S128x1024.Idx := fun | 0 => ⟨(i 0).val % 128, Nat.mod_lt _ (by decide)⟩ | 1 => i 1
def rowDev (i : S512x1024.Idx) : Dev nD := ⟨(i 0).val / 128, by have h : (i 0).val < 512 := (i 0).isLt; show _ < 4; omega⟩

/-- The rows of device `p` in the result of device `c`. -/
def rowsAt (c p : Dev nD) : Vec F S128x1024 .f32 := if p = c then total m ρ c else k0_pay75 (gathered m ρ p)

def outAt (c : Dev nD) : Vec F S512x1024 .f32 := fun i => rowsAt m ρ c (rowDev i) (rowIx i)

omit [FloatOps F] in
/-- Storing 128 rows at a device's place changes that device's rows only. -/
theorem store_rows (off : Fin 2 → ℕ) (h : ∀ a, off a + S128x1024.size a ≤ S512x1024.size a) (p : Dev nD) (e : off = ![128 * p.val, 0])
    (f : Vec F S512x1024 .f32) (w : Vec F S128x1024 .f32) (i : S512x1024.Idx) :
    (oM.access (Rect.unit (s := S512x1024) off S128x1024.size h)).write (Elt F) f w Finset.univ i = if rowDev i = p then w (rowIx i) else f i := by
  subst e
  split
  · rename_i hp
    have hi : (oM.access (Rect.unit (s := S512x1024) ![128 * p.val, 0] S128x1024.size h)).emb (rowIx i) = i := by
      subst hp
      funext a
      refine Fin.ext ?_
      show (![128 * ((i 0).val / 128), 0] : Fin 2 → ℕ) a + 1 * (rowIx i a).val = _
      fin_cases a
      · show 128 * ((i 0).val / 128) + 1 * ((i 0).val % 128) = (i 0).val
        omega
      · show 0 + 1 * (i 1).val = (i 1).val
        omega
    have hw := View.write_emb_of_mem (v := oM.access (Rect.unit (s := S512x1024) ![128 * p.val, 0] S128x1024.size h)) (Val := Elt F) f w
      (Finset.mem_univ (rowIx i))
    rw [hi] at hw
    exact hw
  · rename_i hp
    refine View.write_of_not_mem _ _ _ fun hm => hp ?_
    rw [View.setOn_univ, View.set_slice_whole] at hm
    have h0 := (Rect.mem_set_unit.mp hm) 0
    refine Fin.ext ?_
    show (i 0).val / 128 = p.val
    have h1 : 128 * p.val ≤ (i 0).val ∧ (i 0).val < 128 * p.val + 128 := h0
    omega

/-- The four stores, at the device's own rows and at its three peers', make the result. -/
theorem stores_eq (c : Dev nD) (off0 off1 off2 off3 : Fin 2 → ℕ) (h0 h1 h2 h3) (e0 : off0 = ![128 * c.val, 0])
    (e1 : off1 = ![128 * (peer 0 c).val, 0]) (e2 : off2 = ![128 * (peer 1 c).val, 0]) (e3 : off3 = ![128 * (peer 2 c).val, 0])
    (f : Vec F S512x1024 .f32) :
    (oM.access (Rect.unit (s := S512x1024) off3 S128x1024.size h3)).write (Elt F)
      ((oM.access (Rect.unit (s := S512x1024) off2 S128x1024.size h2)).write (Elt F)
        ((oM.access (Rect.unit (s := S512x1024) off1 S128x1024.size h1)).write (Elt F)
          ((oM.access (Rect.unit (s := S512x1024) off0 S128x1024.size h0)).write (Elt F) f (total m ρ c) Finset.univ)
          (k0_pay75 (gathered m ρ (peer 0 c))) Finset.univ)
        (k0_pay76 (gathered m ρ (peer 1 c))) Finset.univ)
      (k0_pay77 (gathered m ρ (peer 2 c))) Finset.univ = outAt m ρ c := by
  funext i
  rw [store_rows _ _ _ e3, store_rows _ _ _ e2, store_rows _ _ _ e1, store_rows _ _ _ e0]
  have hd : ∀ c p : Dev nD, p = peer 2 c ∨ p = peer 1 c ∨ p = peer 0 c ∨ p = c := by decide
  have hn : ∀ (c : Dev nD) (s : Fin 3), peer s c ≠ c := by decide
  have h12 : ∀ c : Dev nD, peer 1 c ≠ peer 2 c := by decide
  have h02 : ∀ c : Dev nD, peer 0 c ≠ peer 2 c := by decide
  have h01 : ∀ c : Dev nD, peer 0 c ≠ peer 1 c := by decide
  unfold outAt rowsAt
  rcases hd c (rowDev i) with h | h | h | h <;> rw [h]
  · rw [if_pos rfl, if_neg (hn c 2)]; rfl
  · rw [if_neg (h12 c), if_pos rfl, if_neg (hn c 1)]; rfl
  · rw [if_neg (h02 c), if_neg (h01 c), if_pos rfl, if_neg (hn c 0)]
  · rw [if_neg (hn c 2).symm, if_neg (hn c 1).symm, if_neg (hn c 0).symm, if_pos rfl, if_pos rfl]

/-! ## What a device starts from and ends with -/

/-- One for each of the three slots. -/
def tri (Φ : Fin 3 → sProp 𝕄) : sProp 𝕄 := iprop(Φ 0 ∗ Φ 1 ∗ Φ 2)

/-- A buffer's three slots, free of contents. -/
def slots (M : Memref sig .tc .vmem S3x128x1024 .bf16) (c : Dev nD) : sProp 𝕄 := tri fun s => iprop(∃ f, slotPts (F := F) M s c f)

/-- The positions in the device's cells; -/
def posts (c : Dev nD) : sProp 𝕄 :=
  iprop(atPos ER (barCell c) 0 ∅ 0 ∗ (tri fun s => atPos ER (dmaCell 0 s c) 0 ∅ 0) ∗ (tri fun s => atPos ER (dmaCell 1 s c) 0 ∅ 0)
    ∗ (tri fun s => atPos ER (dmaCell 2 s c) 0 ∅ 0) ∗ tri fun s => atPos ER (dmaCell 3 s c) 0 ∅ 0)
/-- the tokens of the duties it pays, by the peer in program order. -/
def payToks (c : Dev nD) : sProp 𝕄 :=
  iprop((tri fun j => dutyTok ER (barCell (peer j c)) 0 (opp j))
    ∗ (tri fun j => dutyTok ER (dmaCell 0 (opp j) c) 0 0) ∗ (tri fun j => dutyTok ER (dmaCell 1 (opp j) (peer j c)) 0 0)
    ∗ (tri fun j => dutyTok ER (dmaCell 2 (opp j) c) 0 0) ∗ tri fun j => dutyTok ER (dmaCell 3 (opp j) (peer j c)) 0 0)
/-- The credit of its own cells, which others pay. -/
def credits (c : Dev nD) : sProp 𝕄 :=
  iprop(cred (tallyAt (barCell c) () 3) ∗ (tri fun s => cred (tallyAt (dmaCell 1 s c) () N)) ∗ tri fun s => cred (tallyAt (dmaCell 3 s c) () N))

def ghost (K : Dev nD × Cell → ℕ) (c : Dev nD) : sProp 𝕄 := iprop(records m ρ K ∗ posts c ∗ payToks c)
def start (c : Dev nD) : sProp 𝕄 := iprop((∃ K, ghost m ρ K c) ∗ credits c ∗ levAts L lv)

/-- The four scratch buffers, free of contents. -/
def scratch (c : Dev nD) : sProp 𝕄 :=
  iprop(slots srcM c ∗ slots stM c ∗ (∃ f, sumPts c fullShare f) ∗ slots agM c)

def Φ₀ (c : Dev nD) : sProp 𝕄 := iprop(start m ρ c ∗ scratch c)
/-- After the body: the scratch buffers, and every cell closed at zero. -/
def zeros (c : Dev nD) : sProp 𝕄 :=
  iprop(semVal (barCell c) 0 ∗ (tri fun s => semVal (dmaCell 0 s c) 0) ∗ (tri fun s => semVal (dmaCell 1 s c) 0)
    ∗ (tri fun s => semVal (dmaCell 2 s c) 0) ∗ tri fun s => semVal (dmaCell 3 s c) 0)
def Φ₁ (c : Dev nD) : sProp 𝕄 := iprop(scratch c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => wqs m ρ c
    | ⟨2, _⟩ => wos m ρ c
    | ⟨3, _⟩ => wks m ρ c
    | ⟨4, _⟩ => wvs m ρ c
    | ⟨5, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at known contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def t₀ : Fin cfg0.N := t0_0

def bodyPre (K : Dev nD × Cell → ℕ) (c : Dev nD) : sProp 𝕄 :=
  iprop((ghost m ρ K c ∗ credits c ∗ levAts L lv ∗ scratch c)
    ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost (c : Dev nD) : sProp 𝕄 :=
  iprop(Φ₁ c ∗ (dats m ρ 0 c).owesAt () t₀.succ
    ∗ stg c cc0_stg0_0 (xs m ρ c) ∗ stg c cc0_stg1_0 (wqs m ρ c) ∗ stg c cc0_stg2_0 (wos m ρ c)
    ∗ stg c cc0_stg3_0 (wks m ρ c) ∗ stg c cc0_stg4_0 (wvs m ρ c) ∗ stg c cc0_stg5_0 (outAt m ρ c))

/-! ## Reads and writes of whole buffers -/

omit [FloatOps F] in
theorem zero2 : (![0, 0] : Fin 2 → ℕ) = fun _ => 0 := funext fun a => by fin_cases a <;> rfl
omit [FloatOps F] in
theorem zero3 : (![0, 0, 0] : Fin 3 → ℕ) = fun _ => 0 := funext fun a => by fin_cases a <;> rfl
omit [FloatOps F] in
theorem read_x (f : Vec F S1x512x1024 .f32) :
    xM.view.readAt (Elt F) (Rect.unit (s := S1x512x1024) ![0, 0, 0] S1x512x1024.size inb_S1x512x1024_S1x512x1024_0_0_0).toLoadRect f = f :=
  Memref.readAt_unit_zero (Elt F) cc0_stg0_0 zero3 _ f
omit [FloatOps F] in
theorem read_wq (f : Vec F S1024x1024 .f32) :
    (Memref.whole cc0_stg1_0).view.readAt (Elt F) (Rect.unit (s := S1024x1024) ![0, 0] S1024x1024.size inb_S1024x1024_S1024x1024_0_0).toLoadRect f = f :=
  Memref.readAt_unit_zero (Elt F) cc0_stg1_0 zero2 _ f
omit [FloatOps F] in
theorem read_wo (f : Vec F S1024x1024 .f32) :
    (Memref.whole cc0_stg2_0).view.readAt (Elt F) (Rect.unit (s := S1024x1024) ![0, 0] S1024x1024.size inb_S1024x1024_S1024x1024_0_0).toLoadRect f = f :=
  Memref.readAt_unit_zero (Elt F) cc0_stg2_0 zero2 _ f
omit [FloatOps F] in
theorem write_sum (f w : Vec F S128x1024 .bf16) :
    (sumM.access (Rect.unit (s := S128x1024) ![0, 0] S128x1024.size inb_S128x1024_S128x1024_0_0)).write (Elt F) f w Finset.univ = w :=
  Memref.write_access_unit_zero_univ (Elt F) cc0_scratch2 zero2 _ f w

omit [FloatOps F] in
/-- The sum's buffer split in its three shares, -/
theorem sum_split (c : Dev nD) (f : Buf (Elt F) (sumM.view.loc (c : Thread nD τ))) :
    (sumPts c fullShare f : sProp 𝕄) ⊢ iprop(sumPts c (lent 0) f ∗ sumPts c (lent 1) f ∗ sumPts c (lent 2) f) := by
  unfold sumPts lent
  exact (pointsTo_share (PosShare.mem_left_op_right fullShare)).1.trans
    (sep_mono_right (pointsTo_share (PosShare.mem_left_op_right fullShare.right)).1)
omit [FloatOps F] in
/-- and joined again. -/
theorem sum_join (c : Dev nD) (f : Buf (Elt F) (sumM.view.loc (c : Thread nD τ))) :
    iprop(sumPts c (lent 0) f ∗ sumPts c (lent 1) f ∗ sumPts c (lent 2) f) ⊢ (sumPts c fullShare f : sProp 𝕄) := by
  unfold sumPts lent
  exact (sep_mono_right (pointsTo_share (PosShare.mem_left_op_right fullShare.right)).2).trans
    (pointsTo_share (PosShare.mem_left_op_right fullShare)).2

end Cert.Mesh

end
-- ==== Proof.Body.lean ====
/-
# 01_k — `Body`: the body run once, at a symbolic device
-/
module

public import proofs.«01_k».proof.Proof.Data
public import proofs.«01_k».proof.Proof.Gen.KernelIdeal.Points

@[expose] public section

noncomputable section

namespace Cert.Mesh

open Cert.KernelIdeal Cert.KernelIdeal.Gen Cert.Chunk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The body on device `c`, its buffers the staging and scratch buffers whole. -/
abbrev body : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7

/-- A load of the sum's buffer, whatever it reads, -/
theorem load_sum {α : Type} {Q : α → sProp 𝕄} (c : Dev nD) {f : Buf (Elt F) (sumM.view.loc (c : Thread nD τ))} {r : LoadRect S128x1024}
    {hl : sumM.view.LoadsAt r} {k : (r.shape.Idx → Elt F .bf16) → Prog (TpuEff nD τ sig (Elt F) Λ₀ .tc) α} :
    sumPts c fullShare f
      ⊢ iprop((sumPts c fullShare f -∗ wp frame (wpE (defs₀ (F := F)) 𝒱₀ (c : Thread nD τ) none) Set.univ (k (sumM.view.readAt (Elt F) r f)) Q)
          -∗ wp frame (wpE (defs₀ (F := F)) 𝒱₀ (c : Thread nD τ) none) Set.univ (.op (.load sumM r hl) k) Q) := by
  unfold sumPts
  exact wp_load 𝒱₀ (c : Thread nD τ) none Set.univ (m := sumM) (by rw [View.set_whole]; exact Finset.subset_univ _)

/-- and a store of it whole: it then holds what was stored. -/
theorem store_sum {α : Type} {Q : α → sProp 𝕄} {k : PUnit → Prog (TpuEff nD τ sig (Elt F) Λ₀ .tc) α} (c : Dev nD)
    {f : Buf (Elt F) (sumM.view.loc (c : Thread nD τ))} {w : Vec F S128x1024 .bf16}
    {hx : (sumM.access (Rect.unit (s := S128x1024) ![0, 0] S128x1024.size inb_S128x1024_S128x1024_0_0)).Stores Finset.univ}
    {hm : Finset.univ = Finset.univ ∨ ∀ a, (Rect.unit (s := S128x1024) ![0, 0] S128x1024.size inb_S128x1024_S128x1024_0_0).stride a = 1} :
    sumPts c fullShare f
      ⊢ iprop((sumPts c fullShare w -∗ wp frame (wpE (defs₀ (F := F)) 𝒱₀ (c : Thread nD τ) none) Set.univ (k ⟨⟩) Q)
          -∗ wp frame (wpE (defs₀ (F := F)) 𝒱₀ (c : Thread nD τ) none) Set.univ
            (.op (.store sumM (Rect.unit (s := S128x1024) ![0, 0] S128x1024.size inb_S128x1024_S128x1024_0_0) w Finset.univ hx hm) k) Q) := by
  unfold sumPts
  iintro H Hk
  iapply (wp_store 𝒱₀ (c : Thread nD τ) none Set.univ (m := sumM)
    (r := Rect.unit (s := S128x1024) ![0, 0] S128x1024.size inb_S128x1024_S128x1024_0_0) (w := w) (by rw [View.set_whole]; exact Finset.subset_univ _)) $$ H
  iintro H
  rw [write_sum]
  iapply Hk
  iexact H

/-- A store of a rectangle of the result's buffer. -/
theorem store_out {α : Type} {Q : α → sProp 𝕄} {k : PUnit → Prog (TpuEff nD τ sig (Elt F) Λ₀ .tc) α} (c : Dev nD) (r : Rect S512x1024)
    {f : Buf (Elt F) (oM.view.loc (c : Thread nD τ))} {w : Vec F r.shape .f32}
    {hx : (oM.access r).Stores Finset.univ} {hm : Finset.univ = Finset.univ ∨ ∀ a, r.stride a = 1} :
    (oM.view.loc (c : Thread nD τ) ↦{fullShare} f)
      ⊢ iprop(((oM.view.loc (c : Thread nD τ) ↦{fullShare} ((oM.access r).write (Elt F) f w Finset.univ) : sProp 𝕄)
            -∗ wp frame (wpE (defs₀ (F := F)) 𝒱₀ (c : Thread nD τ) none) Set.univ (k ⟨⟩) Q)
          -∗ wp frame (wpE (defs₀ (F := F)) 𝒱₀ (c : Thread nD τ) none) Set.univ (.op (.store oM r w Finset.univ hx hm) k) Q) :=
  wp_store 𝒱₀ (c : Thread nD τ) none Set.univ (m := oM) (r := r) (w := w) (Finset.subset_univ _)

/-- The cells of the two exchanges' sources are at level 0. -/
theorem lv_send (a : Fin 4) (h : a = 0 ∨ a = 2) (s : Fin 3) (c : Dev nD) (u : Unit) : lv (dmaCell a s c) u = 0 := by
  dsimp only [lv]; rw [cellOfSem_csem]; rcases h with rfl | rfl <;> rfl

set_option maxHeartbeats 4000000 in
set_option maxRecDepth 20000 in
/-- The body, one rule per effect in program order, from `bodyPre` to `bodyPost`. -/
theorem sound_body (K : Dev nD × Cell → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ (body (F := F)) Kt := by
  unfold body
  simp only [cc0_body_eq_skeleton]
  unfold cc0_body_skel
  simp only [k0_part21_eq_skeleton]
  unfold k0_part21_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton, k0_part20_eq_skeleton]
  unfold k0_part1_skel k0_part2_skel k0_part3_skel k0_part4_skel k0_part5_skel k0_part6_skel k0_part7_skel k0_part8_skel k0_part9_skel
    k0_part10_skel k0_part11_skel k0_part12_skel k0_part13_skel k0_part14_skel k0_part15_skel k0_part16_skel k0_part17_skel
    k0_part18_skel k0_part19_skel k0_part20_skel
  simp only [semSignalWord, semWaitWord, Prog.lift, Prog.bind_op, Prog.bind_ret, Prog.pure_eq_ret, wp_deviceId]
  unfold bodyPre ghost posts payToks credits scratch slots tri
  iintro ⟨⟨⟨⟨#HR, ⟨HpB, ⟨HpS0, HpS1, HpS2⟩, ⟨HpR0, HpR1, HpR2⟩, ⟨HpT0, HpT1, HpT2⟩, HpG0, HpG1, HpG2⟩,
        ⟨HtB0, HtB1, HtB2⟩, ⟨HtS0, HtS1, HtS2⟩, ⟨HtR0, HtR1, HtR2⟩, ⟨HtT0, HtT1, HtT2⟩, HtG0, HtG1, HtG2⟩,
      ⟨HcB, ⟨HcR0, HcR1, HcR2⟩, HcG0, HcG1, HcG2⟩, #Hlev,
      ⟨⟨%fs0, Hs0⟩, ⟨%fs1, Hs1⟩, ⟨%fs2, Hs2⟩⟩, ⟨Hst0, Hst1, Hst2⟩, ⟨%fsum, Hsum⟩, Hag0, Hag1, Hag2⟩,
    Ho, ⟨%d0, %g0, %hg0, Hx⟩, ⟨%d1, %g1, %hg1, Hwq⟩, ⟨%d2, %g2, %hg2, Hwo⟩, ⟨%d3, %g3, %hg3, Hwk⟩, ⟨%d4, %g4, %hg4, Hwv⟩, ⟨%d5, %g5, %hg5, Hout⟩⟩, Hk⟩
  have h0 : g0 = xs m ρ c := by rw [hg0]; unfold Dat.before; rw [if_pos (fetch0_0 t₀)]; rfl
  have h1 : g1 = wqs m ρ c := by rw [hg1]; unfold Dat.before; rw [if_pos (fetch0_1 t₀)]; rfl
  have h2 : g2 = wos m ρ c := by rw [hg2]; unfold Dat.before; rw [if_pos (fetch0_2 t₀)]; rfl
  have h3 : g3 = wks m ρ c := by rw [hg3]; unfold Dat.before; rw [if_pos (fetch0_3 t₀)]; rfl
  have h4 : g4 = wvs m ρ c := by rw [hg4]; unfold Dat.before; rw [if_pos (fetch0_4 t₀)]; rfl
  subst h0 h1 h2 h3 h4
  unfold Dat.owesAt Pipeline.owesWithin
  icases Ho with ⟨%W, %hW, HO⟩
  rw [show (dats m ρ 0 c).owed t₀.castSucc = O₀ c from rfl]
  ihave HO : owing c (O₀ c) $$ [HO]
  · unfold owing; iexists W; iexact HO
  unfold O₀
  iapply (raise_peer m ρ K 0 c _ (dev1_eq c)) $$ [HO HtB0 Hst0 Hag0]
  · isplitr; · iexact HR
    isplitl [HO]; · iexact HO
    isplitl [HtB0]; · iexact HtB0
    isplitl [Hst0] <;> iassumption
  iintro HO
  iapply (raise_peer m ρ K 1 c _ (dev2_eq c)) $$ [HO HtB1 Hst1 Hag1]
  · isplitr; · iexact HR
    isplitl [HO]; · iexact HO
    isplitl [HtB1]; · iexact HtB1
    isplitl [Hst1] <;> iassumption
  iintro HO
  iapply (raise_peer m ρ K 2 c _ (dev3_eq c)) $$ [HO HtB2 Hst2 Hag2]
  · isplitr; · iexact HR
    isplitl [HO]; · iexact HO
    isplitl [HtB2]; · iexact HtB2
    isplitl [Hst2] <;> iassumption
  iintro HO
  iapply (wait_barrier m ρ K c (above_rs c (by decide))) $$ [HO HcB HpB]
  · isplitr; · iexact HR
    isplitr; · iexact Hlev
    isplitl [HcB]; · iexact HcB
    isplitl [HO] <;> iassumption
  iintro ⟨HO, HzB, Hb0, Hb1, Hb2⟩
  unfold barPay
  icases Hb0 with ⟨Hst0, Hag0⟩
  icases Hb1 with ⟨Hst1, Hag1⟩
  icases Hb2 with ⟨Hst2, Hag2⟩
  iapply (wp_load 𝒱₀ (c : Thread nD τ) none Set.univ (m := xM) (Finset.subset_univ _)) $$ Hx; iintro Hx
  rw [read_x]
  iapply (wp_load 𝒱₀ (c : Thread nD τ) none Set.univ (m := Memref.whole cc0_stg1_0) (Finset.subset_univ _)) $$ Hwq; iintro Hwq
  rw [read_wq]
  iapply (wp_load 𝒱₀ (c : Thread nD τ) none Set.univ (m := Memref.whole cc0_stg2_0) (Finset.subset_univ _)) $$ Hwo; iintro Hwo
  rw [read_wo]
  iapply (wp_load 𝒱₀ (c : Thread nD τ) none Set.univ (m := wkM) (Finset.subset_univ _)) $$ Hwk; iintro Hwk
  iapply (wp_load 𝒱₀ (c : Thread nD τ) none Set.univ (m := wvM) (Finset.subset_univ _)) $$ Hwv; iintro Hwv
  iapply (wp_load 𝒱₀ (c : Thread nD τ) none Set.univ (m := xM) (Finset.subset_univ _)) $$ Hx; iintro Hx
  rw [read_rows m ρ c (peer 0 c) _ _ (show k0_off2 c 1#32 = _ from k0_off2_eq c 0)]
  rw [copy1_eq]
  rw [show k0_pay4 (k0_pay1 (xs m ρ c)) (wkM.view.readAt (Elt F) (Rect.unit (s := S1024x1024) (k0_off1 c) S1024x256.size (k0_off1_inb c)).toLoadRect (wks m ρ c)) = keys m ρ c from rfl]
  rw [show k0_pay5 (k0_pay1 (xs m ρ c)) (wvM.view.readAt (Elt F) (Rect.unit (s := S1024x1024) (k0_off1 c) S1024x256.size (k0_off1_inb c)).toLoadRect (wvs m ρ c)) = vals m ρ c from rfl]
  unfold Ors
  iapply (load_slot srcM 2 c) $$ Hs2
  iintro Hs2
  iapply (store_slot srcM 2 c) $$ Hs2
  iintro Hs2
  unfold slotAt
  icases Hs2 with ⟨%e2, %he2, Hs2⟩
  iapply (send_chunk m ρ K 0 c _ (dev4_eq c) rfl rfl rfl rfl he2) $$ [HO Hs2 Hst0 HtS0 HtR0]
  · isplitr; · iexact HR
    isplitl [Hs2]; · iexact Hs2
    isplitl [Hst0]; · iexact Hst0
    isplitl [HO]; · iexact HO
    isplitl [HtS0] <;> iassumption
  iintro ⟨HcS2, HO⟩
  iapply (wp_load 𝒱₀ (c : Thread nD τ) none Set.univ (m := xM) (Finset.subset_univ _)) $$ Hx; iintro Hx
  rw [read_rows m ρ c (peer 1 c) _ _ (show k0_off2 c 2#32 = _ from k0_off2_eq c 1)]
  rw [copy2_eq]
  iapply (load_slot srcM 1 c) $$ Hs1
  iintro Hs1
  iapply (store_slot srcM 1 c) $$ Hs1
  iintro Hs1
  unfold slotAt
  icases Hs1 with ⟨%e1, %he1, Hs1⟩
  iapply (send_chunk m ρ K 1 c _ (dev5_eq c) rfl rfl rfl rfl he1) $$ [HO Hs1 Hst1 HtS1 HtR1]
  · isplitr; · iexact HR
    isplitl [Hs1]; · iexact Hs1
    isplitl [Hst1]; · iexact Hst1
    isplitl [HO]; · iexact HO
    isplitl [HtS1] <;> iassumption
  iintro ⟨HcS1, HO⟩
  iapply (wp_load 𝒱₀ (c : Thread nD τ) none Set.univ (m := xM) (Finset.subset_univ _)) $$ Hx; iintro Hx
  rw [read_rows m ρ c (peer 2 c) _ _ (show k0_off2 c 3#32 = _ from k0_off2_eq c 2)]
  rw [copy3_eq]
  iapply (load_slot srcM 0 c) $$ Hs0
  iintro Hs0
  iapply (store_slot srcM 0 c) $$ Hs0
  iintro Hs0
  unfold slotAt
  icases Hs0 with ⟨%e0, %he0, Hs0⟩
  iapply (send_chunk m ρ K 2 c _ (dev6_eq c) rfl rfl rfl rfl he0) $$ [HO Hs0 Hst2 HtS2 HtR2]
  · isplitr; · iexact HR
    isplitl [Hs0]; · iexact Hs0
    isplitl [Hst2]; · iexact Hst2
    isplitl [HO]; · iexact HO
    isplitl [HtS2] <;> iassumption
  iintro ⟨HcS0, HO⟩
  iapply (wp_load 𝒱₀ (c : Thread nD τ) none Set.univ (m := xM) (Finset.subset_univ _)) $$ Hx; iintro Hx
  rw [read_rows m ρ c c _ _ (k0_off3_eq c), copy4_eq]
  iapply (wait_dma m ρ K 1 2 c 2 (le_of_eq (lv_rs 2 c ())) (above_ag c (by decide)) rfl (credit_st 2)) $$ [HcR2 HO HpR2]
  · isplitr; · iexact HR
    isplitr; · iexact Hlev
    isplitl [HcR2]; · iexact HcR2
    isplitl [HO] <;> iassumption
  iintro ⟨HO, HzR2, Hst2⟩
  iapply (wait_dma m ρ K 1 1 c 2 (le_of_eq (lv_rs 1 c ())) (above_ag c (by decide)) rfl (credit_st 1)) $$ [HcR1 HO HpR1]
  · isplitr; · iexact HR
    isplitr; · iexact Hlev
    isplitl [HcR1]; · iexact HcR1
    isplitl [HO] <;> iassumption
  iintro ⟨HO, HzR1, Hst1⟩
  iapply (wait_dma m ρ K 1 0 c 2 (le_of_eq (lv_rs 0 c ())) (above_ag c (by decide)) rfl (credit_st 0)) $$ [HcR0 HO HpR0]
  · isplitr; · iexact HR
    isplitr; · iexact Hlev
    isplitl [HcR0]; · iexact HcR0
    isplitl [HO] <;> iassumption
  iintro ⟨HO, HzR0, Hst0⟩
  unfold dmaPay slotAt
  icases Hst0 with ⟨%r0, %hr0, Hst0⟩
  iapply (load_slot stM 0 c) $$ Hst0; iintro Hst0
  rw [hr0]
  icases Hst1 with ⟨%r1, %hr1, Hst1⟩
  iapply (load_slot stM 1 c) $$ Hst1; iintro Hst1
  rw [hr1]
  icases Hst2 with ⟨%r2, %hr2, Hst2⟩
  iapply (load_slot stM 2 c) $$ Hst2; iintro Hst2
  rw [hr2]
  iapply (wp_load 𝒱₀ (c : Thread nD τ) none Set.univ (m := oM) (Finset.subset_univ _)) $$ Hout; iintro Hout
  iapply (store_out c _) $$ Hout; iintro Hout
  iapply (load_sum c) $$ Hsum; iintro Hsum
  iapply (store_sum c (w := reduced m ρ c)) $$ Hsum; iintro Hsum
  ihave Hsum := (sum_split c (reduced m ρ c)) $$ Hsum
  icases Hsum with ⟨Hl0, Hl1, Hl2⟩
  unfold Oag
  iapply (send_sum m ρ K 0 c _ (dev7_eq c) rfl rfl rfl) $$ [HO Hl2 Hag0 HtT0 HtG0]
  · isplitr; · iexact HR
    isplitl [Hl2]; · iexact Hl2
    isplitl [Hag0]; · iexact Hag0
    isplitl [HO]; · iexact HO
    isplitl [HtT0] <;> iassumption
  iintro ⟨HcT2, HO⟩
  iapply (send_sum m ρ K 1 c _ (dev8_eq c) rfl rfl rfl) $$ [HO Hl1 Hag1 HtT1 HtG1]
  · isplitr; · iexact HR
    isplitl [Hl1]; · iexact Hl1
    isplitl [Hag1]; · iexact Hag1
    isplitl [HO]; · iexact HO
    isplitl [HtT1] <;> iassumption
  iintro ⟨HcT1, HO⟩
  iapply (send_sum m ρ K 2 c _ (dev9_eq c) rfl rfl rfl) $$ [HO Hl0 Hag2 HtT2 HtG2]
  · isplitr; · iexact HR
    isplitl [Hl0]; · iexact Hl0
    isplitl [Hag2]; · iexact Hag2
    isplitl [HO]; · iexact HO
    isplitl [HtT2] <;> iassumption
  iintro ⟨HcT0, HO⟩
  iapply (wait_dma m ρ K 3 2 c 3 (le_of_eq (lv_ag 2 c ())) (above_zero _) rfl (credit_ag 2)) $$ [HcG2 HO HpG2]
  · isplitr; · iexact HR
    isplitr; · iexact Hlev
    isplitl [HcG2]; · iexact HcG2
    isplitl [HO] <;> iassumption
  iintro ⟨HO, HzG2, Hag2⟩
  iapply (wait_dma m ρ K 3 1 c 3 (le_of_eq (lv_ag 1 c ())) (above_zero _) rfl (credit_ag 1)) $$ [HcG1 HO HpG1]
  · isplitr; · iexact HR
    isplitr; · iexact Hlev
    isplitl [HcG1]; · iexact HcG1
    isplitl [HO] <;> iassumption
  iintro ⟨HO, HzG1, Hag1⟩
  iapply (wait_dma m ρ K 3 0 c 3 (le_of_eq (lv_ag 0 c ())) (above_zero _) rfl (credit_ag 0)) $$ [HcG0 HO HpG0]
  · isplitr; · iexact HR
    isplitr; · iexact Hlev
    isplitl [HcG0]; · iexact HcG0
    isplitl [HO] <;> iassumption
  iintro ⟨HO, HzG0, Hag0⟩
  unfold dmaPay slotAt
  icases Hag0 with ⟨%a0, %ha0, Hag0⟩
  iapply (load_slot agM 0 c) $$ Hag0; iintro Hag0
  rw [ha0]
  iapply (wp_load 𝒱₀ (c : Thread nD τ) none Set.univ (m := oM) (Finset.subset_univ _)) $$ Hout; iintro Hout
  iapply (store_out c _) $$ Hout; iintro Hout
  icases Hag1 with ⟨%a1, %ha1, Hag1⟩
  iapply (load_slot agM 1 c) $$ Hag1; iintro Hag1
  rw [ha1]
  iapply (wp_load 𝒱₀ (c : Thread nD τ) none Set.univ (m := oM) (Finset.subset_univ _)) $$ Hout; iintro Hout
  iapply (store_out c _) $$ Hout; iintro Hout
  icases Hag2 with ⟨%a2, %ha2, Hag2⟩
  iapply (load_slot agM 2 c) $$ Hag2; iintro Hag2
  rw [ha2]
  iapply (wp_load 𝒱₀ (c : Thread nD τ) none Set.univ (m := oM) (Finset.subset_univ _)) $$ Hout; iintro Hout
  iapply (store_out c _) $$ Hout; iintro Hout
  iapply (wait_dma m ρ K 0 2 c 0 (le_of_eq (lv_send 0 (.inl rfl) 2 c ())) (above_zero _) rfl (credit_src 2)) $$ [HcS2 HO HpS2]
  · isplitr; · iexact HR
    isplitr; · iexact Hlev
    isplitl [HcS2]; · iexact HcS2
    isplitl [HO] <;> iassumption
  iintro ⟨HO, HzS2, Hs2⟩
  iapply (wait_dma m ρ K 0 1 c 0 (le_of_eq (lv_send 0 (.inl rfl) 1 c ())) (above_zero _) rfl (credit_src 1)) $$ [HcS1 HO HpS1]
  · isplitr; · iexact HR
    isplitr; · iexact Hlev
    isplitl [HcS1]; · iexact HcS1
    isplitl [HO] <;> iassumption
  iintro ⟨HO, HzS1, Hs1⟩
  iapply (wait_dma m ρ K 0 0 c 0 (le_of_eq (lv_send 0 (.inl rfl) 0 c ())) (above_zero _) rfl (credit_src 0)) $$ [HcS0 HO HpS0]
  · isplitr; · iexact HR
    isplitr; · iexact Hlev
    isplitl [HcS0]; · iexact HcS0
    isplitl [HO] <;> iassumption
  iintro ⟨HO, HzS0, Hs0⟩
  iapply (wait_dma m ρ K 2 2 c 0 (le_of_eq (lv_send 2 (.inr rfl) 2 c ())) (above_zero _) rfl credit_sum) $$ [HcT2 HO HpT2]
  · isplitr; · iexact HR
    isplitr; · iexact Hlev
    isplitl [HcT2]; · iexact HcT2
    isplitl [HO] <;> iassumption
  iintro ⟨HO, HzT2, Hl2⟩
  iapply (wait_dma m ρ K 2 1 c 0 (le_of_eq (lv_send 2 (.inr rfl) 1 c ())) (above_zero _) rfl credit_sum) $$ [HcT1 HO HpT1]
  · isplitr; · iexact HR
    isplitr; · iexact Hlev
    isplitl [HcT1]; · iexact HcT1
    isplitl [HO] <;> iassumption
  iintro ⟨HO, HzT1, Hl1⟩
  iapply (wait_dma m ρ K 2 0 c 0 (le_of_eq (lv_send 2 (.inr rfl) 0 c ())) (above_zero _) rfl credit_sum) $$ [HcT0 HO HpT0]
  · isplitr; · iexact HR
    isplitr; · iexact Hlev
    isplitl [HcT0]; · iexact HcT0
    isplitl [HO] <;> iassumption
  iintro ⟨HO, HzT0, Hl0⟩
  unfold dmaPay
  rw [wp_ret]
  imodintro
  iapply Hk
  ihave Hsum := (sum_join c (reduced m ρ c)) $$ [Hl0 Hl1 Hl2]
  · isplitl [Hl0]; · iexact Hl0
    isplitl [Hl1] <;> iassumption
  unfold bodyPost Φ₁ scratch zeros slots tri
  isplitl [Hs0 Hs1 Hs2 Hst0 Hst1 Hst2 Hsum Hag0 Hag1 Hag2 HzB HzS0 HzS1 HzS2 HzR0 HzR1 HzR2 HzT0 HzT1 HzT2 HzG0 HzG1 HzG2]
  · isplitl [Hs0 Hs1 Hs2 Hst0 Hst1 Hst2 Hsum Hag0 Hag1 Hag2]
    · isplitl [Hs0 Hs1 Hs2]
      · isplitl [Hs0]; · iexact Hs0
        isplitl [Hs1] <;> iassumption
      isplitl [Hst0 Hst1 Hst2]
      · isplitl [Hst0]; · iexists _; iexact Hst0
        isplitl [Hst1]; · iexists _; iexact Hst1
        iexists _; iexact Hst2
      isplitl [Hsum]; · iexists _; iexact Hsum
      isplitl [Hag0]; · iexists _; iexact Hag0
      isplitl [Hag1]; · iexists _; iexact Hag1
      iexists _; iexact Hag2
    isplitl [HzB]; · iexact HzB
    isplitl [HzS0 HzS1 HzS2]
    · isplitl [HzS0]; · iexact HzS0
      isplitl [HzS1] <;> iassumption
    isplitl [HzR0 HzR1 HzR2]
    · isplitl [HzR0]; · iexact HzR0
      isplitl [HzR1] <;> iassumption
    isplitl [HzT0 HzT1 HzT2]
    · isplitl [HzT0]; · iexact HzT0
      isplitl [HzT1] <;> iassumption
    isplitl [HzG0]; · iexact HzG0
    isplitl [HzG1] <;> iassumption
  isplitl [HO]
  · unfold owing Dat.owesAt Pipeline.owesWithin
    icases HO with ⟨%W', HO⟩
    rw [show (dats m ρ 0 c).owed t₀.succ = 0 from rfl]
    iexists W'
    isplitr; rotate_left; · iexact HO
    ipureintro; exact fun _ _ => Or.inl trivial
  isplitl [Hx]
  · iexists _; isplitr; rotate_left; · iexact Hx
    ipureintro; rfl
  isplitl [Hwq]
  · iexists _; isplitr; rotate_left; · iexact Hwq
    ipureintro; rfl
  isplitl [Hwo]
  · iexists _; isplitr; rotate_left; · iexact Hwo
    ipureintro; rfl
  isplitl [Hwk]
  · iexists _; isplitr; rotate_left; · iexact Hwk
    ipureintro; rfl
  isplitl [Hwv]
  · iexists _; isplitr; rotate_left; · iexact Hwv
    ipureintro; rfl
  iexists _; isplitr; rotate_left; · iexact Hout
  ipureintro
  exact stores_eq m ρ c _ _ _ _ _ _ _ _ (k0_off4_eq c) (k0_off5_eq c 0) (k0_off5_eq c 1) (k0_off5_eq c 2) g5

end Cert.Mesh

end
-- ==== Proof.Deal.lean ====
/-
# 01_k — `Deal`: the cells' invariants opened at launch, and every duty's token given to the device that pays it

A device's thirteen cells are its barrier and three slots of each of four arrays. Each is funded with its own duties'
tokens; a barrier's and a receive cell's tokens then go to the peers that pay them.
-/
module

public import proofs.«01_k».proof.Proof.Data
public import Idealize.ShloMosaic.Lib.Pipeline.Launch
public import Idealize.ShloMosaic.Lib.Pipeline.Kit

@[expose] public section

noncomputable section

namespace Cert.Mesh

open Cert.KernelIdeal Cert.KernelIdeal.Gen Cert.Chunk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Conjunctions over cells and over tokens -/

omit [FloatOps F] in
theorem tri_eq (Φ : Fin 3 → sProp 𝕄) : bigSep Finset.univ Φ = tri Φ := bigSep_univ_eq_bigSepL [0, 1, 2] (by decide) (by decide) Φ

/-- Something for each slot of each of the four arrays. -/
def arrays (Φ : Fin 4 → Fin 3 → sProp 𝕄) : sProp 𝕄 := iprop(tri (Φ 0) ∗ tri (Φ 1) ∗ tri (Φ 2) ∗ tri (Φ 3))

omit [FloatOps F] in
theorem arrays_eq (Φ : Fin 4 × Fin 3 → sProp 𝕄) : bigSep Finset.univ Φ = arrays fun k s => Φ (k, s) := by
  rw [bigSep_univ_prod, bigSep_congr fun k _ => tri_eq fun s => Φ (k, s)]
  exact bigSep_univ_eq_bigSepL [0, 1, 2, 3] (by decide) (by decide) _

omit [FloatOps F] in
theorem cells_eq (Φ : Cell → sProp 𝕄) : bigSep Finset.univ Φ = iprop((arrays fun k s => Φ (some (k, s))) ∗ Φ none) := by
  rw [bigSep_univ_equiv (Equiv.optionEquivSumPUnit (Fin 4 × Fin 3) : Cell ≃ (Fin 4 × Fin 3) ⊕ Unit).symm Φ, bigSep_univ_sum, arrays_eq]
  exact congrArg (fun Q => iprop(_ ∗ Q)) (bigSep_univ_eq_bigSepL [()] (by decide) (by decide) _)

/-- A device's tokens: its barrier's three, and one for each slot of each array. -/
abbrev Tok : Type := Fin 3 ⊕ (Fin 4 × Fin 3)
abbrev tokCell : Tok → Cell := fun | .inl _ => none | .inr ks => some ks
abbrev tokDuty : Tok → Fin 3 := fun | .inl d => d | .inr _ => 0
abbrev tokOf (ct : Dev nD × Tok) : GSem nD τ sig × ℕ × Fin 3 := (kcell (ct.1, tokCell ct.2), 0, tokDuty ct.2)

theorem tok_injective : Function.Injective fun t : Tok => (tokCell t, tokDuty t) := by decide
theorem tokOf_injective : Function.Injective tokOf := fun a b h => by
  have h1 : kcell (a.1, tokCell a.2) = kcell (b.1, tokCell b.2) := congrArg Prod.fst h
  have h2 : ((a.1, tokCell a.2) : Dev nD × Cell) = (b.1, tokCell b.2) := kcell_injective h1
  have h3 : tokDuty a.2 = tokDuty b.2 := congrArg (fun x => x.2.2) h
  exact Prod.ext (congrArg (fun x => x.1) h2) (tok_injective (Prod.ext (congrArg (fun x => x.2) h2) h3))

def meshCells : Finset (GSem nD τ sig) := Finset.univ.map ⟨kcell, kcell_injective⟩
def meshToks : Finset (GSem nD τ sig × ℕ × Fin 3) := Finset.univ.map ⟨tokOf, tokOf_injective⟩

/-- The ghost state at launch: the pipeline's and the mesh's. -/
def u₀ : UU := (initOf (Pipeline.cells cfgs cellOf_inj) (Pipeline.launchToks cfgs cellOf_inj), initOf meshCells meshToks)

/-- The tokens of the duties of device `c`'s own cells. -/
def toks (c : Dev nD) : sProp 𝕄 :=
  iprop((tri fun d => dutyTok ER (barCell c) 0 d) ∗ arrays fun k s => dutyTok ER (dmaCell k s c) 0 0)

omit [FloatOps F] in
theorem toks_eq (c : Dev nD) : (bigSep Finset.univ fun t : Tok => (dutyTok ER (kcell (c, tokCell t)) 0 (tokDuty t) : sProp 𝕄)) = toks c := by
  rw [bigSep_univ_sum, tri_eq, arrays_eq]; rfl

/-- What device `c` is given at launch: its cells' state, its positions in them, its own duties' tokens; -/
def G (c : Dev nD) : sProp 𝕄 :=
  iprop((bigSep Finset.univ fun k : Cell => roundState ER (meshRd m ρ) (kcell (c, k)) 0)
    ∗ (bigSep Finset.univ fun k : Cell => iprop(atPos ER (kcell (c, k)) 0 ∅ 0 ∗ reached ER (kcell (c, k)) 0)) ∗ toks c)
/-- and what that has become when the devices start. -/
def G' (c : Dev nD) : sProp 𝕄 := iprop(∃ K, ghost m ρ K c)

/-- The mesh's ghost state funds every device. -/
theorem fund_mesh : BI.own (ER (initOf meshCells meshToks)) ⊢ (|==> bigSep Finset.univ (G m ρ) : sProp 𝕄) := by
  have hX (Φ : GSem nD τ sig → sProp 𝕄) : bigSep meshCells Φ = bigSep Finset.univ fun c : Dev nD => bigSep Finset.univ fun k : Cell => Φ (kcell (c, k)) := by
    unfold meshCells; rw [bigSep_map, bigSep_univ_prod]; rfl
  have hT : bigSep meshToks (fun x => (dutyTok ER x.1 x.2.1 x.2.2 : sProp 𝕄)) = bigSep Finset.univ fun c : Dev nD => toks c := by
    unfold meshToks; rw [bigSep_map, bigSep_univ_prod]
    exact bigSep_congr fun c _ => toks_eq c
  iintro HX
  imod (Rounds.fund ER (meshRd m ρ) meshCells meshToks) $$ HX with ⟨Hst, Hr, Hat, Htok⟩
  imodintro
  ihave Hst' := (Entails.of_eq (hX fun g => roundState ER (meshRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The kernel's own semaphores. -/
abbrev osem (ks : Fin 4 × Fin 3) : SemLoc sig := .dma (dsem ks.1 ks.2)

theorem ownSemFacts : Pipeline.OwnSemFacts cfg0.spec osem := by decide

omit [FloatOps F] in
theorem ownSems0_eq (c : Dev nD) : (Pipeline.ownSems0 (Ix := Unit) (Name := ℕ) (U := UU) (Lvl := ℕ) (Val := Elt F) (τ := τ) osem c : sProp 𝕄)
    = arrays fun k s => semVal (dmaCell k s c) 0 := by
  unfold Pipeline.ownSems0; rw [arrays_eq]
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's counters at zero become its cells' invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (meshRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (show iprop(Pipeline.ownSems0 (Ix := Unit) (Name := ℕ) (U := UU) (Lvl := ℕ) (Val := Elt F) (τ := τ) osem c ∗ unscopedSems0 c)
      ⊢ (bigSep Finset.univ fun k : Cell => semVal (kcell (c, k)) 0 : sProp 𝕄) from
        Entails.of_eq (by rw [ownSems0_eq, unscopedSems0_eq, cells_eq])) $$ [Hos Hus]
  · isplitl [Hos] <;> iassumption
  imod (show iprop((bigSep Finset.univ fun k : Cell => semVal (kcell (c, k)) 0) ∗ bigSep Finset.univ fun k : Cell => roundState ER (meshRd m ρ) (kcell (c, k)) 0)
      ⊢ (|={Set.univ}=> bigSep Finset.univ fun k => iprop(∃ κ : ℕ, cellInv ER (meshRd m ρ) κ (kcell (c, k))) : sProp 𝕄) from by
        rw [← bigSep_sep']
        exact (bigSep_mono fun k _ => (Rounds.body_intro ER (meshRd m ρ) (kcell (c, k))).trans inv_alloc).trans (bigSep_fupd _ _)) $$ [Hv Hst] with Hinv
  · isplitl [Hv] <;> iassumption
  imodintro
  isplitl [Hinv]; · iexact Hinv
  isplitl [Hat] <;> iassumption

/-! ## The tokens to their payers -/

omit [FloatOps F] in
/-- Three things in the order of the slots are the three in the order of the peers. -/
theorem tri_opp (Φ : Fin 3 → sProp 𝕄) : tri Φ ⊢ tri fun j => Φ (opp j) := by
  unfold tri opp
  iintro ⟨H0, H1, H2⟩
  isplitl [H2]; · iexact H2
  isplitl [H1] <;> iassumption

omit [FloatOps F] in
/-- So on every device. -/
theorem tri_own (Φ : Dev nD → Fin 3 → sProp 𝕄) :
    (bigSep Finset.univ fun c => tri (Φ c)) ⊢ bigSep Finset.univ fun c => tri fun j => Φ c (opp j) :=
  bigSep_mono fun c _ => tri_opp (Φ c)

omit [FloatOps F] in
/-- Each device's three things, each given to the peer it is meant for. -/
theorem tri_around (Φ : Dev nD → Fin 3 → sProp 𝕄) :
    (bigSep Finset.univ fun c => tri (Φ c)) ⊢ bigSep Finset.univ fun c => tri fun j => Φ (peer j c) (opp j) := by
  refine (tri_own Φ).trans ?_
  unfold tri
  rw [bigSep_sep', bigSep_sep', bigSep_sep', bigSep_sep', bigSep_univ_equiv (turn 0) (fun c => Φ c (opp 0)),
    bigSep_univ_equiv (turn 1) (fun c => Φ c (opp 1)), bigSep_univ_equiv (turn 2) (fun c => Φ c (opp 2))]
  exact BI.Entails.refl _

omit [FloatOps F] in
theorem toks_around : (bigSep Finset.univ fun c : Dev nD => (toks c : sProp 𝕄)) ⊢ bigSep Finset.univ fun c : Dev nD => payToks c := by
  unfold toks payToks arrays
  simp only [bigSep_sep']
  iintro ⟨HB, HS, HR, HT, HG⟩
  isplitl [HB]; · iapply (tri_around fun c d => dutyTok ER (barCell c) 0 d); iexact HB
  isplitl [HS]; · iapply (tri_own fun c s => dutyTok ER (dmaCell 0 s c) 0 0); iexact HS
  isplitl [HR]; · iapply (tri_around fun c s => dutyTok ER (dmaCell 1 s c) 0 0); iexact HR
  isplitl [HT]; · iapply (tri_own fun c s => dutyTok ER (dmaCell 2 s c) 0 0); iexact HT
  iapply (tri_around fun c s => dutyTok ER (dmaCell 3 s c) 0 0); iexact HG

omit [FloatOps F] in
/-- The positions in all of a device's cells. -/
theorem posts_intro (c : Dev nD) : (bigSep Finset.univ fun k : Cell => (atPos ER (kcell (c, k)) 0 ∅ 0 : sProp 𝕄)) ⊢ posts c := by
  rw [cells_eq]
  unfold posts arrays
  iintro ⟨⟨H0, H1, H2, H3⟩, HB⟩
  isplitl [HB]; · iexact HB
  isplitl [H0]; · iexact H0
  isplitl [H1]; · iexact H1
  isplitl [H2] <;> iassumption

omit [FloatOps F] in
theorem posts_all : (bigSep Finset.univ fun c : Dev nD => bigSep Finset.univ fun k : Cell => (atPos ER (kcell (c, k)) 0 ∅ 0 : sProp 𝕄))
    ⊢ bigSep Finset.univ fun c : Dev nD => posts c := bigSep_mono fun c _ => posts_intro c

/-- What a device starts from, the invariants' names forgotten. -/
theorem ghost_intro (K : Dev nD × Cell → ℕ) (c : Dev nD) : iprop(records m ρ K ∗ posts c ∗ payToks c) ⊢ G' m ρ c := by
  unfold G' ghost
  iintro H; iexists K; iexact H

/-- All the devices' invariants become the records every device reads. -/
theorem regroup :
    (bigSep Finset.univ fun c : Dev nD => iprop((bigSep Finset.univ fun k => iprop(∃ κ : ℕ, cellInv ER (meshRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Cell => iprop(∃ κ : ℕ, cellInv ER (meshRd m ρ) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (meshRd m ρ) κ (kcell ck) : sProp 𝕄))) $$ HI
  icases HK with ⟨%K, #HI⟩
  ihave Htk := (toks_around (F := F)) $$ Htok
  ihave Hps := (posts_all (F := F)) $$ Hat
  have hdeal : iprop(records m ρ K ∗ bigSep Finset.univ fun c : Dev nD => iprop(posts c ∗ payToks c)) ⊢ (bigSep Finset.univ (G' m ρ) : sProp 𝕄) := by
    refine (sep_mono_left (BI.bigSep_of_persistent (Finset.univ : Finset (Dev nD)) (records m ρ K))).trans ?_
    rw [← bigSep_sep']
    exact bigSep_mono fun c _ => ghost_intro m ρ K c
  iapply hdeal
  isplitr
  · unfold records; isplitl; · iexact HI
    iexact HR
  · rw [bigSep_sep']
    isplitl [Hps] <;> iassumption

/-- The launch's step over all the devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Cert.Mesh

end
-- ==== Proof.Credit.lean ====
/-
# 01_k — `Credit`: what a device is owed at launch

Every device owes each peer one raise of its barrier, one chunk and one sum; so each device is owed three raises and, in each
of its receive slots, one transfer.
-/
module

public import proofs.«01_k».proof.Proof.Deal

@[expose] public section

noncomputable section

namespace Cert.Mesh

open Cert.KernelIdeal Cert.KernelIdeal.Gen Cert.Chunk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- A payment on one cell, read at a cell. -/
theorem tally_at (a c : Dev nD) (k k' : Cell) (n : ℕ) :
    (tallyAt (kcell (a, k)) () n : CellTallies nD τ sig Unit) (kcell (c, k')) () = if a = c ∧ k = k' then n else 0 := by
  rw [tallyAt_apply]
  by_cases h : a = c ∧ k = k'
  · rw [if_pos h, if_pos ⟨by rw [h.1, h.2], rfl⟩]
  · rw [if_neg h, if_neg fun h' => h ?_]
    have e := kcell_injective h'.1
    exact ⟨(congrArg Prod.fst e).symm, (congrArg Prod.snd e).symm⟩

/-- One device is the peer before `c`. -/
theorem sum_peer (j : Fin 3) (c : Dev nD) (n : ℕ) : (∑ d : Dev nD, if peer j d = c then n else 0) = n := by
  rw [Finset.sum_eq_single (peer (opp j) c)]
  · rw [if_pos (opp_peer j c)]
  · intro d _ hd; exact if_neg fun h => hd (by rw [← h, peer_opp])
  · intro h; exact absurd (Finset.mem_univ _) h

/-- What device `d` owes on device `c`'s cell `k`. -/
theorem owed_at (d c : Dev nD) (k : Cell) : O₀ d (kcell (c, k)) () =
    (if peer 2 d = c ∧ some (3, 0) = k then N else 0) + (if peer 1 d = c ∧ some (3, 1) = k then N else 0) + (if peer 0 d = c ∧ some (3, 2) = k then N else 0)
      + (if peer 2 d = c ∧ some (1, 0) = k then N else 0) + (if peer 1 d = c ∧ some (1, 1) = k then N else 0) + (if peer 0 d = c ∧ some (1, 2) = k then N else 0)
      + (if peer 2 d = c ∧ none = k then 1 else 0) + (if peer 1 d = c ∧ none = k then 1 else 0) + (if peer 0 d = c ∧ none = k then 1 else 0) := by
  unfold O₀ Ors Oag
  simp only [Pi.add_apply, Finsupp.add_apply, tally_at]
  rw [show (0 : CellTallies nD τ sig Unit) (kcell (c, k)) () = 0 from rfl, Nat.zero_add]

/-- What a cell is owed: three raises, a transfer, or nothing. -/
def due : Cell → ℕ := fun | none => 3 | some (1, _) => N | some (3, _) => N | _ => 0

omit [FloatOps F] in
theorem sum_owed (c : Dev nD) (k : Cell) : (∑ d : Dev nD, O₀ d (kcell (c, k)) ()) = due k := by
  simp only [owed_at, Finset.sum_add_distrib]
  rcases k with _ | ⟨a, s⟩
  · simp only [reduceCtorEq, and_false, and_true, if_false, Finset.sum_const_zero, sum_peer, due]
    rfl
  · fin_cases a <;> fin_cases s <;> simp [sum_peer, due]

omit [FloatOps F] in
theorem launch_at (c : Dev nD) (k : Cell) :
    tallyOn (kcell (c, k)) (launchCredit (Pipeline.owing O₀) 0 (kcell (c, k))) = (tallyAt (kcell (c, k)) () (due k) : CellTallies nD τ sig Unit) := by
  unfold tallyAt; refine congrArg _ (Finsupp.ext fun u => ?_); cases u
  rw [Pipeline.launchCredit_owing, Finsupp.single_eq_same, sum_owed]

omit [FloatOps F] in
theorem cred_at (c : Dev nD) (k : Cell) :
    (cred (tallyOn (kcell (c, k)) (launchCredit (Pipeline.owing O₀) 0 (kcell (c, k)))) : sProp 𝕄) ⊢ cred (tallyAt (kcell (c, k)) () (due k)) := by
  rw [launch_at]

omit [FloatOps F] in
/-- A device's credit at launch: of its barrier and its receive cells. -/
theorem creds (c : Dev nD) : (Pipeline.launchCred O₀ c : sProp 𝕄) ⊢ credits c := by
  have h : (bigSep Finset.univ fun k : Cell => (cred (tallyAt (kcell (c, k)) () (due k)) : sProp 𝕄)) ⊢ credits c := by
    rw [cells_eq]
    unfold credits arrays
    iintro ⟨⟨-, H1, -, H3⟩, HB⟩
    isplitl [HB]; · iexact HB
    isplitl [H1]; · iexact H1
    iexact H3
  have h' : (Pipeline.launchCred O₀ c : sProp 𝕄) ⊢ (bigSep Finset.univ fun k : Cell => (cred (tallyAt (kcell (c, k)) () (due k)) : sProp 𝕄)) := by
    unfold Pipeline.launchCred
    refine (bigSep_subset (Finset.subset_univ (Finset.univ.map ⟨csem, csem_injective⟩))).trans ?_
    rw [bigSep_map]
    exact bigSep_mono fun k _ => cred_at c k
  exact h'.trans h

end Cert.Mesh

end
-- ==== Proof.Run.lean ====
/-
# 01_k — `Run`: the launch of the four devices, and every run of the kernel

For any float values: every run ends, with each device's result array at `outAt`, its operands as they were and every
counter at zero.
-/
module

public import proofs.«01_k».proof.Proof.Body
public import proofs.«01_k».proof.Proof.Credit
public import Idealize.ShloMosaic.Lib.Ring
public import Idealize.ShloMosaic.Lib.Pipeline.CollectiveSegs

@[expose] public section

noncomputable section

namespace Cert.Mesh

open Cert.KernelIdeal Cert.KernelIdeal.Gen Cert.Chunk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The scratch buffers as slots -/

omit [FloatOps F] in
theorem slots_disjoint (s s' : Fin 3) (h : s ≠ s') : Disjoint (slotR s).set (slotR s').set :=
  Ring.lead_disjoint (s := S3x128x1024) 0 1 (fun s : Fin 3 => ![s.val, 0, 0]) S1x128x1024.size slot_inb (fun b => (Nat.one_mul _).symm) rfl s s' h

omit [FloatOps F] in
theorem slots_cover : Finset.univ.biUnion (fun s : Fin 3 => (slotR s).set) = Finset.univ :=
  Ring.lead_cover (s := S3x128x1024) 0 1 (fun s : Fin 3 => ![s.val, 0, 0]) S1x128x1024.size slot_inb (fun b => (Nat.one_mul _).symm)
    (by decide) rfl (by decide) rfl

/-- The elements of slot `s`. -/
def slotSet (M : Memref sig .tc .vmem S3x128x1024 .bf16) (c : Dev nD) (s : Fin 3) : Finset (Idx (M.view.loc (c : Thread nD τ))) :=
  (M.access (slotR s)).set

/-- The three slots make up the buffer. -/
structure Parts (M : Memref sig .tc .vmem S3x128x1024 .bf16) (c : Dev nD) : Prop where
  disjoint : ∀ s s' : Fin 3, s ≠ s' → Disjoint (slotSet M c s) (slotSet M c s')
  cover : Finset.univ.biUnion (slotSet M c) = Finset.univ

theorem set_src (c : Dev nD) (s : Fin 3) : slotSet srcM c s = (slotR s).set := View.set_slice_whole _ _
theorem set_st (c : Dev nD) (s : Fin 3) : slotSet stM c s = (slotR s).set := View.set_slice_whole _ _
theorem set_ag (c : Dev nD) (s : Fin 3) : slotSet agM c s = (slotR s).set := View.set_slice_whole _ _

theorem parts_src (c : Dev nD) : Parts srcM c := ⟨fun s s' h => by rw [set_src, set_src]; exact slots_disjoint s s' h,
  (congrArg (Finset.biUnion Finset.univ) (funext (set_src c))).trans slots_cover⟩
theorem parts_st (c : Dev nD) : Parts stM c := ⟨fun s s' h => by rw [set_st, set_st]; exact slots_disjoint s s' h,
  (congrArg (Finset.biUnion Finset.univ) (funext (set_st c))).trans slots_cover⟩
theorem parts_ag (c : Dev nD) : Parts agM c := ⟨fun s s' h => by rw [set_ag, set_ag]; exact slots_disjoint s s' h,
  (congrArg (Finset.biUnion Finset.univ) (funext (set_ag c))).trans slots_cover⟩

omit [FloatOps F] in
theorem slotPts_set (M : Memref sig .tc .vmem S3x128x1024 .bf16) (c : Dev nD) (s : Fin 3) (f : Buf (Elt F) (M.view.loc (c : Thread nD τ))) :
    slotPts M s c f = (M.view.loc (c : Thread nD τ) ↦[slotSet M c s]{fullShare} f : sProp 𝕄) := by unfold slotPts slotSet; rfl

omit [FloatOps F] in
/-- Such a buffer, whole, is its three slots; -/
theorem slots_split {M : Memref sig .tc .vmem S3x128x1024 .bf16} {c : Dev nD} (h : Parts M c) :
    (iprop(∃ f : Buf (Elt F) (M.view.loc (c : Thread nD τ)), M.view.loc (c : Thread nD τ) ↦{fullShare} f) : sProp 𝕄) ⊢ slots M c := by
  unfold slots tri
  exact Ring.slots3_split (ℓ := M.view.loc (c : Thread nD τ)) (slotSet M c) h.disjoint h.cover (slotPts M 0 c) (slotPts M 1 c) (slotPts M 2 c)
    (slotPts_set M c 0) (slotPts_set M c 1) (slotPts_set M c 2)
omit [FloatOps F] in
/-- and they are it. -/
theorem slots_join {M : Memref sig .tc .vmem S3x128x1024 .bf16} {c : Dev nD} (h : Parts M c) :
    slots M c ⊢ (iprop(∃ f : Buf (Elt F) (M.view.loc (c : Thread nD τ)), M.view.loc (c : Thread nD τ) ↦{fullShare} f) : sProp 𝕄) := by
  unfold slots tri
  exact Ring.slots3_join (ℓ := M.view.loc (c : Thread nD τ)) (slotSet M c) h.disjoint h.cover (slotPts M 0 c) (slotPts M 1 c) (slotPts M 2 c)
    (slotPts_set M c 0) (slotPts_set M c 1) (slotPts_set M c 2)

omit [FloatOps F] in
theorem sumPts_eq (c : Dev nD) (f : Buf (Elt F) (sumM.view.loc (c : Thread nD τ))) :
    (sumPts c fullShare f : sProp 𝕄) = (((c : Thread nD τ).loc cc0_scratch2) ↦{fullShare} f) := by
  unfold sumPts; rw [View.set_whole]

omit [FloatOps F] in
/-- What the launch leaves a device beside its staging buffers is its scratch buffers; -/
theorem scratch_intro (c : Dev nD) : (Pipeline.scopedRest cfg0.spec c : sProp 𝕄) ⊢ scratch c := by
  rw [scopedRest0_eq]
  unfold scratch
  simp only [sumPts_eq]
  iintro ⟨H0, H1, H2, H3⟩
  isplitl [H0]; · iapply (slots_split (parts_src c)); iexact H0
  isplitl [H1]; · iapply (slots_split (parts_st c)); iexact H1
  isplitl [H2]; · iexact H2
  iapply (slots_split (parts_ag c)); iexact H3
omit [FloatOps F] in
/-- and they are given back. -/
theorem scratch_exit (c : Dev nD) : scratch c ⊢ (Pipeline.scopedRest cfg0.spec c : sProp 𝕄) := by
  rw [scopedRest0_eq]
  unfold scratch
  simp only [sumPts_eq]
  iintro ⟨H0, H1, H2, H3⟩
  isplitl [H0]; · iapply (slots_join (parts_src c)); iexact H0
  isplitl [H1]; · iapply (slots_join (parts_st c)); iexact H1
  isplitl [H2]; · iexact H2
  iapply (slots_join (parts_ag c)); iexact H3

/-! ## The body obligation -/

/-- What the pipeline hands the body. -/
def handed (c : Dev nD) : sProp 𝕄 :=
  iprop(Φ₀ m ρ c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

set_option maxRecDepth 8000 in
/-- The body meets the pipeline's demand. -/
theorem body_obligation (c : Dev nD) : BodyObligation (dats (F := F) m ρ 0 c) (defs₀ (F := F)) 𝒱₀ () Set.univ := fun t => by
  rw [show t = t₀ from fin_N0 t]
  rw [bigSep_W0, bigSep_W0]
  simp only [owns_whole_eq]
  show handed m ρ c ⊢ wp frame (wpE (defs₀ (F := F)) 𝒱₀ c none) Set.univ (body (F := F)) (fun _ => bodyPost m ρ c)
  unfold handed Φ₀ start
  iintro ⟨⟨⟨⟨%K, Hg⟩, Hcr, Hlev⟩, Hscr⟩, Ho, Hw⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev] <;> iassumption
    isplitl [Ho] <;> iassumption
  · iintro H; iexact H

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (scratch_intro c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ownSems0_eq, unscopedSems0_eq]
  unfold Φ₁ zeros arrays
  iintro ⟨Hr, HzB, H0⟩
  isplitl [HzB]; · iexact HzB
  isplitl [H0]; · iexact H0
  iapply (scratch_exit c); iexact Hr

/-- The pipeline's counters lie at level 0. -/
theorem lv_win (c : Dev nD) (w : Fin cfg0.W) (s : Fin (cfg0.win w).nbuf) : lv ((c : Thread nD τ), .dma ((cfg0.win w).sem s)) () = 0 := by
  rw [show lv ((c : Thread nD τ), .dma ((cfg0.win w).sem s)) () = lv (((0 : Dev nD) : Thread nD τ), .dma ((cfg0.win w).sem s)) () from rfl]
  revert s; revert w; decide

theorem waits (c : Dev nD) : (levAts L lv : sProp 𝕄) ⊢ Pipeline.cellsWaits cfgs (dats m ρ) () 0 c :=
  Pipeline.cellsWaits_intro cfgs (dats m ρ) () 0 c fun w s t =>
    mayWait_above c _ 0 (le_of_eq (lv_win c w s)) (by
      rcases t with ⟨_ | _, ht⟩
      · exact above_O₀ c
      · exact above_zero 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every run of the kernel ends, with the windows' arrays at `finalA` and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_mesh m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands are as they were. -/
theorem finalA_in (c : Dev nD) (w : Fin 6) (hw : (cfg0.win w).isOut = false) :
    finalA m ρ c w = (s₀ m ρ).mem ((cfg0.win w).arr.view.loc (c : Thread nD τ)) :=
  (dats (F := F) m ρ 0 c).arrAt_in w hw _

/-- The result's array ends as the body left it in its staging buffer. -/
theorem finalA_out (c : Dev nD) : finalA m ρ c (5 : Fin 6) = outAt m ρ c := by
  unfold finalA
  rw [show cfg0.N = ((0 : Fin 1) : Fin cfg0.N).val + 1 from rfl, (dats m ρ 0 c).arrAt_succ (5 : Fin 6) (0 : Fin 1),
    if_pos (flush0_5 (0 : Fin 1))]
  exact Memref.write_access_unit_zero_univ (Elt F) main_v1 (funext fun a => by fin_cases a <;> rfl) _ _ _

omit [FloatOps F] in
/-- What the pipeline stages of an operand is the operand. -/
theorem xs_eq (c : Dev nD) : xs m ρ c = m ((c : Thread nD τ).loc main_arg0) :=
  Memref.read_access_unit_zero (Elt F) main_arg0 (funext fun a => by fin_cases a <;> rfl) _ _
omit [FloatOps F] in
theorem wqs_eq (c : Dev nD) : wqs m ρ c = m ((c : Thread nD τ).loc main_arg1) :=
  Memref.read_access_unit_zero (Elt F) main_arg1 (funext fun a => by fin_cases a <;> rfl) _ _
omit [FloatOps F] in
theorem wos_eq (c : Dev nD) : wos m ρ c = m ((c : Thread nD τ).loc main_arg4) :=
  Memref.read_access_unit_zero (Elt F) main_arg4 (funext fun a => by fin_cases a <;> rfl) _ _
omit [FloatOps F] in
theorem wks_eq (c : Dev nD) : wks m ρ c = m ((c : Thread nD τ).loc main_arg2) :=
  Memref.read_access_unit_zero (Elt F) main_arg2 (funext fun a => by fin_cases a <;> rfl) _ _
omit [FloatOps F] in
theorem wvs_eq (c : Dev nD) : wvs m ρ c = m ((c : Thread nD τ).loc main_arg3) :=
  Memref.read_access_unit_zero (Elt F) main_arg3 (funext fun a => by fin_cases a <;> rfl) _ _

/-- The run, read at the arguments and the result. -/
theorem run_args : θ_run defs (onTc (τ := τ) (main (F := F))) (s₀ m ρ) (fun r => (∀ c : Dev nD,
      r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun r h => ⟨fun c => ⟨(h.1 c (5 : Fin 6)).trans (finalA_out m ρ c),
      (h.1 c (0 : Fin 6)).trans (finalA_in m ρ c 0 rfl), (h.1 c (1 : Fin 6)).trans (finalA_in m ρ c 1 rfl),
      (h.1 c (3 : Fin 6)).trans (finalA_in m ρ c 3 rfl), (h.1 c (4 : Fin 6)).trans (finalA_in m ρ c 4 rfl),
      (h.1 c (2 : Fin 6)).trans (finalA_in m ρ c 2 rfl)⟩, h.2⟩) (run_main m ρ)

end Cert.Mesh

end
-- ==== Proof.Frames.lean ====
/-
# 01_k — `Frames`: every run of each program ends, its arguments as they were and every counter at zero
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run

@[expose] public section

noncomputable section

namespace Cert.Mesh

open Idealize.ShloMosaic Idealize.SL.Sem

section Texts

attribute [local instance] Cert.Kernel.Gen.facts Cert.KernelIdeal.Gen.facts

/-- The two printings of the kernel are one text: their bodies, -/
theorem body_eq : Cert.Kernel.cc0_body (F := Bits) = Cert.KernelIdeal.cc0_body (F := Bits) := rfl
/-- their body tables, -/
theorem defs₀_eq : Cert.Kernel.defs₀ (F := Bits) = Cert.KernelIdeal.defs₀ (F := Bits) := by
  unfold Cert.Kernel.defs₀ Cert.KernelIdeal.defs₀
  congr 1
  funext l x
  match l, x with
  | 0, (t, s) => dsimp only; rw [body_eq]
/-- and the whole programs' tables. -/
theorem defs_eq : Cert.Kernel.defs (F := Bits) = Cert.KernelIdeal.defs (F := Bits) := by
  unfold Cert.Kernel.defs Cert.KernelIdeal.defs
  exact congrArg (Pipeline.defs Cert.KernelIdeal.pcfgs) defs₀_eq

end Texts

/-- The frame of the kernel at its own bits. -/
theorem frame_kernel : Cert.quiescent_Kernel (hKernel := Cert.Kernel.Gen.facts) := fun m ρ _ => by
  rw [defs_eq]
  exact (θ_run Cert.KernelIdeal.defs _ _).mono (fun _ h => ⟨fun c => (h.1 c).2, h.2⟩) (run_args (F := Bits) m ρ)

/-- The frame of the kernel over the extended reals. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (run_args (F := Ideal) m ρ)

/-- The frame of the reference, which has no counter. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Mesh

end
-- ==== Proof.Value.lean ====
/-
# 01_k — `Value`: the kernel's computation for a chunk, over the extended reals, read at an index
-/
module

public import proofs.«01_k».proof.Proof.Chunk
public import Idealize.ShloMosaic.Lib.Pointwise

@[expose] public section

noncomputable section

namespace Cert.Value

open Cert.KernelIdeal Cert.KernelIdeal.Gen Cert.Chunk

open Idealize.ShloMosaic

/-- The scaled score of a query row against key row `j`. -/
def score (q : Fin 128 → EReal) (K : Fin 512 → Fin 128 → EReal) (j : Fin 512) : EReal :=
  (∑ e : Fin 128, q e * K j e) * Ideal.ofBits .f32 0x3DB504F3#32

/-- The weight of key row `j`: its score less the row's largest, exponentiated. -/
def weight (s : Fin 512 → EReal) (j : Fin 512) : EReal :=
  Ideal.exp (s j - Finset.univ.fold max (Ideal.ofBits .f32 0xFF800000#32) s)

/-- Softmax attention of one query row over 512 keys and values, at column `d`. -/
def attn (q : Fin 128 → EReal) (K V : Fin 512 → Fin 128 → EReal) (d : Fin 128) : EReal :=
  Ideal.div (∑ j : Fin 512, weight (score q K) j * V j d) (∑ j : Fin 512, weight (score q K) j)

set_option maxRecDepth 16384 in
theorem scores_apply (q : FVec Ideal S128x128 .bf16) (k : FVec Ideal S512x128 .bf16) (r : Fin 128) (j : Fin 512) :
    scores q k (ix2 r j) = score (fun e => q (ix2 r e)) (fun j e => k (ix2 j e)) j := by
  pointwise [scores, score]

set_option maxRecDepth 16384 in
theorem weights_apply (s : FVec Ideal S128x512 .f32) (r : Fin 128) (j : Fin 512) :
    weights s (ix2 r j) = weight (fun j => s (ix2 r j)) j := by
  pointwise [weights, weight]

set_option maxRecDepth 16384 in
theorem weighted_apply (p : FVec Ideal S128x512 .f32) (v : FVec Ideal S512x128 .bf16) (r d : Fin 128) :
    weighted p v (ix2 r d) = Ideal.div (∑ j : Fin 512, p (ix2 r j) * v (ix2 j d)) (∑ j : Fin 512, p (ix2 r j)) := by
  pointwise [weighted]

/-- One head of the kernel is attention. -/
theorem headOut_apply (q : FVec Ideal S128x128 .bf16) (k v : FVec Ideal S512x128 .bf16) (r d : Fin 128) :
    headOut q k v (ix2 r d) = attn (fun e => q (ix2 r e)) (fun j e => k (ix2 j e)) (fun j e => v (ix2 j e)) d := by
  unfold headOut attn
  rw [weighted_apply]
  simp only [weights_apply, scores_apply]

set_option maxRecDepth 16384 in
theorem queries_apply (wq : FVec Ideal S1024x1024 .bf16) (xb : Vec Ideal S1x128x1024 .f32) (r : Fin 128) (n : Fin 1024) :
    queries wq xb (ix2 r n) = ∑ k : Fin 1024, xb (ix3 0 r k) * wq (ix2 k n) := by
  unfold queries; unfold_payloads; pointwise

set_option maxRecDepth 16384 in
theorem keys_apply (xv : FVec Ideal S512x1024 .bf16) (wk : Vec Ideal S1024x256 .f32) (j : Fin 512) (e : Fin 256) :
    k0_pay4 xv wk (ix2 j e) = ∑ k : Fin 1024, xv (ix2 j k) * wk (ix2 k e) := by
  unfold_payloads; pointwise

set_option maxRecDepth 16384 in
theorem vals_apply (xv : FVec Ideal S512x1024 .bf16) (wv : Vec Ideal S1024x256 .f32) (j : Fin 512) (e : Fin 256) :
    k0_pay5 xv wv (ix2 j e) = ∑ k : Fin 1024, xv (ix2 j k) * wv (ix2 k e) := by
  unfold_payloads; pointwise

set_option maxRecDepth 16384 in
theorem rows_apply (x : Vec Ideal S1x512x1024 .f32) (j : Fin 512) (k : Fin 1024) : k0_pay1 x (ix2 j k) = x (ix3 0 j k) := by
  unfold_payloads; pointwise

theorem wq_apply (w : Vec Ideal S1024x1024 .f32) (k n : Fin 1024) : k0_pay2 w (ix2 k n) = w (ix2 k n) := by
  unfold_payloads; pointwise
theorem wo_apply (w : Vec Ideal S1024x1024 .f32) (k n : Fin 1024) : k0_pay3 w (ix2 k n) = w (ix2 k n) := by
  unfold_payloads; pointwise

set_option maxRecDepth 16384 in
theorem partialOut_apply (wq wo : FVec Ideal S1024x1024 .bf16) (k v : FVec Ideal S512x256 .bf16) (xb : Vec Ideal S1x128x1024 .f32)
    (r : Fin 128) (j : Fin 1024) :
    partialOut wq wo k v xb (ix2 r j) = ∑ n : Fin 1024, heads (queries wq xb) k v (ix2 r n) * wo (ix2 n j) := by
  pointwise [partialOut]

/-- The 128 columns of head `h`. -/
def col8 (h : Fin 8) (e : Fin 128) : Fin 1024 := ⟨128 * h.val + e.val, by omega⟩
/-- The 128 columns of the key/value head that head `h` reads. -/
def col2 (h : Fin 8) (e : Fin 128) : Fin 256 := ⟨128 * (h.val / 4) + e.val, by omega⟩

theorem attn_congr {q q' : Fin 128 → EReal} {K K' V V' : Fin 512 → Fin 128 → EReal} {d d' : Fin 128} (hq : ∀ e, q e = q' e)
    (hK : ∀ j e, K j e = K' j e) (hV : ∀ j e, V j e = V' j e) (hd : d = d') : attn q K V d = attn q' K' V' d' := by
  rw [funext hq, funext fun j => funext (hK j), funext fun j => funext (hV j), hd]

set_option maxRecDepth 16384 in
/-- One head, its queries, keys and values cut out of the side-by-side ones. -/
theorem head_apply (q : FVec Ideal S128x1024 .bf16) (k v : FVec Ideal S512x256 .bf16) (o o' : ℕ) (hq : S128x1024.Slices ![0, o] S128x128)
    (hk : S512x256.Slices ![0, o'] S512x128) (r : Fin 128) (n : Fin 128) (h : Fin 8) (d : Fin 128) (ho : o = 128 * h.val)
    (ho' : o' = 128 * (h.val / 4)) (hn : n.val = d.val) :
    headOut (extractStridedSlice S128x128 ![0, o] q hq) (extractStridedSlice S512x128 ![0, o'] k hk) (extractStridedSlice S512x128 ![0, o'] v hk) (ix2 r n)
      = attn (fun e => q (ix2 r (col8 h e))) (fun j e => k (ix2 j (col2 h e))) (fun j e => v (ix2 j (col2 h e))) d := by
  subst ho ho'
  rw [headOut_apply]
  refine attn_congr (fun e => ?_) (fun j e => ?_) (fun j e => ?_) (Fin.ext hn)
  · pointwise [col8]
  · pointwise [col2]
  · pointwise [col2]

set_option maxRecDepth 16384 in
/-- The heads side by side. -/
theorem heads_apply (q : FVec Ideal S128x1024 .bf16) (k v : FVec Ideal S512x256 .bf16) (r : Fin 128) (h : Fin 8) (d : Fin 128) :
    heads q k v (ix2 r (col8 h d)) = attn (fun e => q (ix2 r (col8 h e))) (fun j e => k (ix2 j (col2 h e))) (fun j e => v (ix2 j (col2 h e))) d := by
  have hc : (col8 h d).val = 128 * h.val + d.val := rfl
  pointwise [heads]
  split_ifs <;> refine head_apply q k v _ _ _ _ r _ h d ?_ ?_ ?_ <;> (try dsimp only) <;> omega

end Cert.Value

end
-- ==== Proof.Reference.lean ====
/-
# 01_k — `Reference`: the reference's result, over the extended reals, read at an index
-/
module

public import proofs.«01_k».proof.Proof.Value
public import proofs.«01_k».proof.Proof.Gen.ReferenceIdeal.Run

@[expose] public section

noncomputable section

namespace Cert.Value

open Cert.ReferenceIdeal Cert.ReferenceIdeal.Gen

open Idealize.ShloMosaic

attribute [local instance] Cert.ReferenceIdeal.Gen.facts

variable (x : FVec Ideal S1x512x1024 .f32) (wq : FVec Ideal S1024x4096 .f32) (wk wv : FVec Ideal S1024x1024 .f32) (wo : FVec Ideal S4096x1024 .f32)

/-! ## The reference's stages -/

/-- The queries, by head. -/
def refQ : FVec Ideal S1x512x32x128 .f32 :=
  shapeCast _ (Host.dotGeneral dot_S1x512x1024_S1024x4096_S1x512x4096_2_0_01_1_n_n none x wq) shapeCasts_S1x512x4096_S1x512x32x128

/-- The keys or the values, each of the eight heads four times. -/
def refK (w : FVec Ideal S1024x1024 .f32) : FVec Ideal S1x512x32x128 .f32 :=
  shapeCast _ (broadcastInDim S1x512x8x4x128 ![0, 1, 2, 4] bcast_S1x512x8x128_S1x512x8x4x128_0_1_2_4
    (shapeCast _ (Host.dotGeneral dot_S1x512x1024_S1024x1024_S1x512x1024_2_0_01_1_n_n none x w) shapeCasts_S1x512x1024_S1x512x8x128))
    shapeCasts_S1x512x8x4x128_S1x512x32x128

/-- The scaled scores. -/
def refS (q k : FVec Ideal S1x512x32x128 .f32) : FVec Ideal S1x32x512x512 .f32 :=
  mulf (Host.dotGeneral dot_S1x512x32x128_S1x512x32x128_S1x32x512x512_3_3_1_1_02_02 none q k)
    (broadcastInDim S1x32x512x512 ![] bcast_S_S1x32x512x512 (constant S_ .f32 0x3DB504F3#32))

/-- The scores less their row's largest, exponentiated. -/
def refP (s : FVec Ideal S1x32x512x512 .f32) : FVec Ideal S1x32x512x512 .f32 :=
  Host.exp (subf s (broadcastInDim S1x32x512x512 ![0, 1, 2, 3] bcast_S1x32x512x1_S1x32x512x512_0_1_2_3
    (broadcastInDim S1x32x512x1 ![0, 1, 2] bcast_S1x32x512_S1x32x512x1_0_1_2
      (Host.reduce FloatOps.maximumf s (constant S_ .f32 0xFF800000#32) reducesTo_S1x32x512x512_S1x32x512_d3 h_S_))))

/-- The weights times the values over the weights' sum. -/
def refA (p : FVec Ideal S1x32x512x512 .f32) (v : FVec Ideal S1x512x32x128 .f32) : FVec Ideal S1x512x32x128 .f32 :=
  Host.divf (transpose S1x512x32x128 [0, 3, 1, 2] (Host.dotGeneral dot_S1x512x32x128_S1x32x512x512_S1x32x128x512_1_3_3_2_02_01 none v p)
      transposes_S1x32x128x512_S1x512x32x128_0_3_1_2)
    (broadcastInDim S1x512x32x128 ![0, 1, 2, 3] bcast_S1x512x32x1_S1x512x32x128_0_1_2_3 (transpose S1x512x32x1 [0, 2, 1, 3]
      (broadcastInDim S1x32x512x1 ![0, 1, 2] bcast_S1x32x512_S1x32x512x1_0_1_2
        (Host.reduceAdd p (constant S_ .f32 0x00000000#32) reducesTo_S1x32x512x512_S1x32x512_d3 h_S_))
      transposes_S1x32x512x1_S1x512x32x1_0_2_1_3))

/-- The heads side by side by the output weights. -/
def refO (a : FVec Ideal S1x512x32x128 .f32) : FVec Ideal S512x1024 .f32 :=
  shapeCast _ (Host.dotGeneral dot_S1x512x4096_S4096x1024_S1x512x1024_2_0_01_1_n_n none
    (shapeCast _ a shapeCasts_S1x512x32x128_S1x512x4096) wo) shapeCasts_S1x512x1024_S512x1024

/-- The whole reference. -/
def refOut : FVec Ideal S512x1024 .f32 := refO wo (refA (refP (refS (refQ x wq) (refK x wk))) (refK x wv))

/-- It is what the reference's run leaves. -/
theorem res_eq (m : (ℓ : Loc nD τ sig) → Buf (Elt Ideal) ℓ) (c : Dev nD) :
    Cert.ReferenceIdeal.Value.res_out0 m c = refOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Cert.ReferenceIdeal.Value.res_out0 Cert.ReferenceIdeal.Value.res_main_v27 refOut refO refA refP refS refQ refK
  rfl

/-! ## Read at an index -/

/-- The 128 columns of head `h`. -/
def col32 (h : Fin 32) (e : Fin 128) : Fin 4096 := ⟨h.val * 128 + e.val, by omega⟩
/-- The 128 columns of the key/value head that head `h` reads. -/
def colKV (h : Fin 32) (e : Fin 128) : Fin 1024 := ⟨h.val / 4 * 128 + e.val, by omega⟩

set_option maxRecDepth 16384 in
theorem refQ_apply (r : Fin 512) (h : Fin 32) (e : Fin 128) : refQ x wq (ix4 0 r h e) = ∑ k : Fin 1024, x (ix3 0 r k) * wq (ix2 k (col32 h e)) := by
  pointwise [refQ, col32]

set_option maxRecDepth 16384 in
theorem refK_apply (w : FVec Ideal S1024x1024 .f32) (j : Fin 512) (h : Fin 32) (e : Fin 128) :
    refK x w (ix4 0 j h e) = ∑ k : Fin 1024, x (ix3 0 j k) * w (ix2 k (colKV h e)) := by
  pointwise [refK, colKV]

set_option maxRecDepth 16384 in
theorem refS_apply (q k : FVec Ideal S1x512x32x128 .f32) (h : Fin 32) (r j : Fin 512) :
    refS q k (ix4 0 h r j) = score (fun e => q (ix4 0 r h e)) (fun j e => k (ix4 0 j h e)) j := by
  pointwise [refS, score]

set_option maxRecDepth 16384 in
theorem refP_apply (s : FVec Ideal S1x32x512x512 .f32) (h : Fin 32) (r j : Fin 512) :
    refP s (ix4 0 h r j) = weight (fun j => s (ix4 0 h r j)) j := by
  pointwise [refP, weight]

set_option maxRecDepth 16384 in
theorem refA_apply (p : FVec Ideal S1x32x512x512 .f32) (v : FVec Ideal S1x512x32x128 .f32) (r : Fin 512) (h : Fin 32) (d : Fin 128) :
    refA p v (ix4 0 r h d) = Ideal.div (∑ j : Fin 512, p (ix4 0 h r j) * v (ix4 0 j h d)) (∑ j : Fin 512, p (ix4 0 h r j)) := by
  pointwise! [refA]

set_option maxRecDepth 16384 in
theorem refO_apply (a : FVec Ideal S1x512x32x128 .f32) (r : Fin 512) (j : Fin 1024) :
    refO wo a (ix2 r j) = ∑ n : Fin 4096, a (ix4 0 r ⟨n.val / 128, by omega⟩ ⟨n.val % 128, by omega⟩) * wo (ix2 n j) := by
  pointwise [refO]

/-- Attention of head `h` on row `r`, at column `d`, as the reference computes it from its whole arrays. -/
def head (r : Fin 512) (h : Fin 32) (d : Fin 128) : EReal :=
  attn (fun e => ∑ k : Fin 1024, x (ix3 0 r k) * wq (ix2 k (col32 h e))) (fun j e => ∑ k : Fin 1024, x (ix3 0 j k) * wk (ix2 k (colKV h e)))
    (fun j e => ∑ k : Fin 1024, x (ix3 0 j k) * wv (ix2 k (colKV h e))) d

/-- The product of a row's heads, at flat column `n`, with the output weights' row `n`. -/
def term (r : Fin 512) (j : Fin 1024) (n : Fin 4096) : EReal :=
  head x wq wk wv r ⟨n.val / 128, by omega⟩ ⟨n.val % 128, by omega⟩ * wo (ix2 n j)

/-- The reference's result: the sum of these over the 4096 columns. -/
theorem refOut_apply (r : Fin 512) (j : Fin 1024) : refOut x wq wk wv wo (ix2 r j) = ∑ n : Fin 4096, term x wq wk wv wo r j n := by
  unfold refOut term head attn
  rw [refO_apply]
  simp only [refA_apply, refP_apply, refS_apply, refQ_apply, refK_apply]

end Cert.Value

end
-- ==== Proof.Equation.lean ====
/-
# 01_k — `Equation`: what the kernel leaves on every device is the reference's result

The four devices' partial products for a row add up to the reference's sum over all 4096 columns: device `c` holds heads
`8 c …`, that is columns `1024 c …`.
-/
module

public import proofs.«01_k».proof.Proof.Run
public import proofs.«01_k».proof.Proof.Reference
public import proofs.«01_k».proof.Proof.Frames

@[expose] public section

noncomputable section

namespace Cert.Value

open Cert.KernelIdeal Cert.KernelIdeal.Gen Cert.Chunk Cert.Mesh

open Idealize.ShloMosaic Idealize.ShloMosaic.TcCoe Idealize.SL.Sem

variable (m : (ℓ : Loc nD τ sig) → Buf (Elt Ideal) ℓ) (ρ : Dev nD → PrngReg)

/-! ## The device's operands at an index -/

/-- Row `r` of device `p`'s rows. -/
def row (p : Dev nD) (r : Fin 128) : Fin 512 := ⟨128 * p.val + r.val, by have h : p.val < 4 := p.isLt; omega⟩
/-- Column `n` of device `c`'s columns. -/
def col (c : Dev nD) (n : Fin 1024) : Fin 4096 := ⟨1024 * c.val + n.val, by have h : c.val < 4 := c.isLt; omega⟩
/-- Key/value column `e` of device `c`'s. -/
def kvcol (c : Dev nD) (e : Fin 256) : Fin 1024 := ⟨256 * c.val + e.val, by have h : c.val < 4 := c.isLt; omega⟩

/-- The rows of device `p`, read from device `c`'s copy of `x`. -/
theorem xrows_apply (c p : Dev nD) (r : Fin 128) (k : Fin 1024) : xrows m ρ c p (ix3 0 r k) = xs m ρ c (ix3 0 (row p r) k) := by
  refine congrArg (xs m ρ c) (funext fun a => Fin.ext ?_)
  show (![0, 128 * p.val, 0] : Fin 3 → ℕ) a + 1 * ((ix3 0 r k : S1x128x1024.Idx) a).val = _
  fin_cases a
  · rfl
  · show 128 * p.val + 1 * r.val = 128 * p.val + r.val
    omega
  · show 0 + 1 * k.val = k.val
    omega

/-- The columns of the key weights that device `c` reads, -/
theorem wkcols_apply (c : Dev nD) (k : Fin 1024) (e : Fin 256) : wkcols m ρ c (ix2 k e) = wks m ρ c (ix2 k (kvcol c e)) := by
  refine congrArg (wks m ρ c) (funext fun a => Fin.ext ?_)
  show k0_off1 c a + 1 * ((ix2 k e : S1024x256.Idx) a).val = _
  rw [Cert.KernelIdeal.Gen.k0_off1_eq]
  fin_cases a
  · show 0 + 1 * k.val = k.val
    omega
  · show 256 * c.val + 1 * e.val = 256 * c.val + e.val
    omega

/-- and those of the value weights. -/
theorem wvcols_apply (c : Dev nD) (k : Fin 1024) (e : Fin 256) : wvcols m ρ c (ix2 k e) = wvs m ρ c (ix2 k (kvcol c e)) := by
  refine congrArg (wvs m ρ c) (funext fun a => Fin.ext ?_)
  show k0_off1 c a + 1 * ((ix2 k e : S1024x256.Idx) a).val = _
  rw [Cert.KernelIdeal.Gen.k0_off1_eq]
  fin_cases a
  · show 0 + 1 * k.val = k.val
    omega
  · show 256 * c.val + 1 * e.val = 256 * c.val + e.val
    omega

/-! ## One device's partial product -/

/-- Device `c`'s partial product for the rows of device `p`. -/
def part (c p : Dev nD) : FVec Ideal S128x1024 .f32 :=
  partialOut (k0_pay2 (wqs m ρ c)) (k0_pay3 (wos m ρ c)) (keys m ρ c) (vals m ρ c) (xrows m ρ c p)

section Whole

variable (x : FVec Ideal S1x512x1024 .f32) (wq : FVec Ideal Cert.ReferenceIdeal.S1024x4096 .f32) (wk wv : FVec Ideal S1024x1024 .f32)
  (wo : FVec Ideal Cert.ReferenceIdeal.S4096x1024 .f32)

/-- Each device holds its part of the whole arrays. -/
structure Holds : Prop where
  x : ∀ c, xs m ρ c = x
  wq : ∀ c k n, wqs m ρ c (ix2 k n) = wq (ix2 k (col c n))
  wk : ∀ c, wks m ρ c = wk
  wv : ∀ c, wvs m ρ c = wv
  wo : ∀ c n j, wos m ρ c (ix2 n j) = wo (ix2 (col c n) j)

variable {m ρ x wq wk wv wo} (H : Holds m ρ x wq wk wv wo)
include H

/-- Head `h` of device `c` is the reference's head `8 c + h`, on the rows of device `p`. -/
theorem heads_part (c p : Dev nD) (r : Fin 128) (h : Fin 8) (d : Fin 128) :
    heads (queries (k0_pay2 (wqs m ρ c)) (xrows m ρ c p)) (keys m ρ c) (vals m ρ c) (ix2 r (col8 h d))
      = head x wq wk wv (row p r) ⟨8 * c.val + h.val, by have h : c.val < 4 := c.isLt; omega⟩ d := by
  have hc : c.val < 4 := c.isLt
  rw [heads_apply]
  unfold head keys vals
  refine attn_congr (fun e => ?_) (fun j e => ?_) (fun j e => ?_) rfl
  · rw [queries_apply]
    refine Finset.sum_congr rfl fun k _ => ?_
    rw [xrows_apply, H.x, wq_apply, H.wq]
    congr 3
    refine Fin.ext ?_
    show 1024 * c.val + (128 * h.val + e.val) = (8 * c.val + h.val) * 128 + e.val
    omega
  · rw [keys_apply]
    refine Finset.sum_congr rfl fun k _ => ?_
    rw [rows_apply, H.x, wkcols_apply, H.wk]
    congr 3
    refine Fin.ext ?_
    show 256 * c.val + (128 * (h.val / 4) + e.val) = (8 * c.val + h.val) / 4 * 128 + e.val
    omega
  · rw [vals_apply]
    refine Finset.sum_congr rfl fun k _ => ?_
    rw [rows_apply, H.x, wvcols_apply, H.wv]
    congr 3
    refine Fin.ext ?_
    show 256 * c.val + (128 * (h.val / 4) + e.val) = (8 * c.val + h.val) / 4 * 128 + e.val
    omega

/-- It is the reference's sum over the device's columns. -/
theorem part_apply (c p : Dev nD) (r : Fin 128) (j : Fin 1024) :
    part m ρ c p (ix2 r j) = ∑ n : Fin 1024, term x wq wk wv wo (row p r) j (col c n) := by
  have hc : c.val < 4 := c.isLt
  unfold part
  rw [partialOut_apply]
  refine Finset.sum_congr rfl fun n _ => ?_
  have hn : n = col8 ⟨n.val / 128, by omega⟩ ⟨n.val % 128, by omega⟩ := Fin.ext (by show n.val = 128 * (n.val / 128) + n.val % 128; omega)
  rw [wo_apply, H.wo]
  unfold term
  refine congrArg (· * wo (ix2 (col c n) j)) ?_
  conv_lhs => rw [hn]
  rw [heads_part H]
  have h1 : (⟨8 * c.val + n.val / 128, by omega⟩ : Fin 32) = ⟨(col c n).val / 128, by have := (col c n).isLt; omega⟩ :=
    Fin.ext (by show 8 * c.val + n.val / 128 = (1024 * c.val + n.val) / 128; omega)
  have h2 : (⟨n.val % 128, by omega⟩ : Fin 128) = ⟨(col c n).val % 128, by omega⟩ :=
    Fin.ext (by show n.val % 128 = (1024 * c.val + n.val) % 128; omega)
  rw [h1, h2]

/-! ## The sum over the devices -/

omit H

/-- A chunk as sent is the partial product itself. -/
theorem sent_apply (c p : Dev nD) (r : Fin 128) (j : Fin 1024) : sent m ρ c p (ix3 0 r j) = part m ρ c p (ix2 r j) := by
  show shapeCast S1x128x1024 (truncf .bf16 (part m ρ c p) bitsLt_bf16_f32) shapeCasts_S128x1024_S1x128x1024 (ix3 0 r j) = _
  generalize part m ρ c p = f
  pointwise

/-- The first received chunk added, at an index; -/
theorem add_apply (f : FVec Ideal S128x1024 .f32) (g : Vec Ideal S1x128x1024 .bf16) (r : Fin 128) (j : Fin 1024) :
    k0_pay72 f g (ix2 r j) = f (ix2 r j) + g (ix3 0 r j) := by
  unfold_payloads
  pointwise

/-- the other two added. -/
theorem add2_apply (f : FVec Ideal S128x1024 .f32) (g h : Vec Ideal S1x128x1024 .bf16) (r : Fin 128) (j : Fin 1024) :
    k0_pay73 f g h (ix2 r j) = f (ix2 r j) + g (ix3 0 r j) + h (ix3 0 r j) := by
  unfold_payloads
  pointwise

/-- A device and its three peers are the four devices. -/
theorem sum_peers (f : Dev nD → EReal) (c : Dev nD) : f c + f (peer 0 c) + f (peer 1 c) + f (peer 2 c) = f 0 + f 1 + f 2 + f 3 := by
  have hc : c = 0 ∨ c = 1 ∨ c = 2 ∨ c = 3 := by revert c; decide
  rcases hc with rfl | rfl | rfl | rfl
  · rfl
  · show f 1 + f 2 + f 3 + f 0 = _
    ac_rfl
  · show f 2 + f 3 + f 0 + f 1 = _
    ac_rfl
  · show f 3 + f 0 + f 1 + f 2 = _
    ac_rfl

/-- The sum for the rows of device `p`: the four devices' partial products. -/
theorem total_apply (p : Dev nD) (r : Fin 128) (j : Fin 1024) :
    total m ρ p (ix2 r j) = part m ρ 0 p (ix2 r j) + part m ρ 1 p (ix2 r j) + part m ρ 2 p (ix2 r j) + part m ρ 3 p (ix2 r j) := by
  unfold total
  rw [add2_apply, add_apply, sent_apply, sent_apply, sent_apply]
  exact sum_peers (fun c => part m ρ c p (ix2 r j)) p

/-- A sum over `a` blocks of `b`, block by block. -/
theorem sum_blocks (a b : ℕ) (f : Fin (a * b) → EReal) (g : Fin a → Fin b → Fin (a * b)) (hg : ∀ i j, (g i j).val = b * i.val + j.val) :
    ∑ n, f n = ∑ i, ∑ j, f (g i j) := by
  rw [← Equiv.sum_comp finProdFinEquiv f, Fintype.sum_prod_type]
  refine Finset.sum_congr rfl fun i _ => Finset.sum_congr rfl fun j _ => congrArg f (Fin.ext ?_)
  rw [hg, Nat.add_comm]
  rfl

/-- A sum over 4096 columns, device by device. -/
theorem sum_cols (f : Fin 4096 → EReal) :
    ∑ n, f n = ∑ n, f (col 0 n) + ∑ n, f (col 1 n) + ∑ n, f (col 2 n) + ∑ n, f (col 3 n) :=
  (sum_blocks 4 1024 f col fun _ _ => rfl).trans (Fin.sum_univ_four _)

/-- The sum as received is the sum itself. -/
theorem gathered_eq (p : Dev nD) : k0_pay75 (gathered m ρ p) = total m ρ p := by
  funext i
  idx_vars i
  unfold gathered reduced total
  generalize k0_pay72 (own m ρ p) (sent m ρ (peer 0 p) p) = f
  generalize sent m ρ (peer 1 p) p = g
  generalize sent m ρ (peer 2 p) p = h
  unfold_payloads
  pointwise

/-- So every device's copy of a row holds the sum. -/
theorem rowsAt_eq (c p : Dev nD) : rowsAt m ρ c p = total m ρ p := by
  unfold rowsAt
  split
  · rename_i h
    rw [h]
  · exact gathered_eq p

include H

/-- What the run leaves on every device is the reference's result. -/
theorem outAt_eq (c : Dev nD) : outAt m ρ c = refOut x wq wk wv wo := by
  funext i
  obtain ⟨r, j, rfl⟩ : ∃ (r : Fin 512) (j : Fin 1024), i = ix2 r j := ⟨_, _, eq_ix2 i⟩
  have hrow : row (rowDev (ix2 r j)) ⟨r.val % 128, Nat.mod_lt _ (by decide)⟩ = r :=
    Fin.ext (by show 128 * (r.val / 128) + r.val % 128 = r.val; omega)
  have hix : rowIx (ix2 r j) = (ix2 ⟨r.val % 128, Nat.mod_lt _ (by decide)⟩ j : S128x1024.Idx) := eq_ix2 _
  show rowsAt m ρ c (rowDev (ix2 r j)) (rowIx (ix2 r j)) = _
  rw [rowsAt_eq, hix, total_apply, part_apply H, part_apply H, part_apply H, part_apply H, hrow]
  exact (sum_cols (term x wq wk wv wo r j)).symm.trans (refOut_apply x wq wk wv wo r j).symm

end Whole

/-- The kernel leaves the reference's result on every device, over the extended reals. -/
theorem algebraic : Cert.algebraic_KernelIdeal_ReferenceIdeal (hKernelIdeal := Cert.KernelIdeal.Gen.facts)
    (hReferenceIdeal := Cert.ReferenceIdeal.Gen.facts) := fun m ρ m' ρ' _ hin => by
  have H : Holds m ρ (m' ((((0 : Dev Cert.ReferenceIdeal.nD)).tc : Thread Cert.ReferenceIdeal.nD Cert.ReferenceIdeal.τ).loc Cert.ReferenceIdeal.main_arg0))
      (m' ((((0 : Dev Cert.ReferenceIdeal.nD)).tc : Thread Cert.ReferenceIdeal.nD Cert.ReferenceIdeal.τ).loc Cert.ReferenceIdeal.main_arg1))
      (m' ((((0 : Dev Cert.ReferenceIdeal.nD)).tc : Thread Cert.ReferenceIdeal.nD Cert.ReferenceIdeal.τ).loc Cert.ReferenceIdeal.main_arg2))
      (m' ((((0 : Dev Cert.ReferenceIdeal.nD)).tc : Thread Cert.ReferenceIdeal.nD Cert.ReferenceIdeal.τ).loc Cert.ReferenceIdeal.main_arg3))
      (m' ((((0 : Dev Cert.ReferenceIdeal.nD)).tc : Thread Cert.ReferenceIdeal.nD Cert.ReferenceIdeal.τ).loc Cert.ReferenceIdeal.main_arg4)) := by
    refine ⟨fun c => (xs_eq m ρ c).trans (hin c).1, fun c k n => ?_, fun c => (wks_eq m ρ c).trans (hin c).2.2.1,
      fun c => (wvs_eq m ρ c).trans (hin c).2.2.2.1, fun c n j => ?_⟩
    · refine (congrFun ((wqs_eq m ρ c).trans (hin c).2.1) (ix2 k n)).trans ?_
      rw [Layout.block_apply]
      refine congrArg _ (funext fun a => Fin.ext ?_)
      rw [Layout.Tiles.idx_val]
      fin_cases a
      · rfl
      · show c.val * 1024 + n.val = 1024 * c.val + n.val
        omega
    · refine (congrFun ((wos_eq m ρ c).trans (hin c).2.2.2.2) (ix2 n j)).trans ?_
      rw [Layout.block_apply]
      refine congrArg _ (funext fun a => Fin.ext ?_)
      rw [Layout.Tiles.idx_val]
      fin_cases a
      · show c.val * 1024 + n.val = 1024 * c.val + n.val
        omega
      · rfl
  refine ⟨_, (θ_run Cert.KernelIdeal.defs _ _).mono (fun r h c => ⟨(h.1 c).1.trans (outAt_eq H c), (h.1 c).2⟩) (run_args (F := Ideal) m ρ), ?_⟩
  refine (θ_run Cert.ReferenceIdeal.defs _ _).mono (fun r h => ⟨(h 0).1.trans (res_eq m' 0), (h 0).2⟩)
    (Cert.ReferenceIdeal.Value.run (F := Ideal) m' ρ')

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Mesh.frame_kernel,
  Cert.Mesh.frame_ideal, Cert.Mesh.frame_reference, trivial, Cert.Value.algebraic⟩

end Cert.Proof

end
